-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S8192x128 : Shape := ⟨2, ![8192, 128]⟩
abbrev S8192x4 : Shape := ⟨2, ![8192, 4]⟩
abbrev S16384x3 : Shape := ⟨2, ![16384, 3]⟩
abbrev S16384 : Shape := ⟨1, ![16384]⟩
abbrev S_ : Shape := ⟨0, ![]⟩
abbrev S3 : Shape := ⟨1, ![3]⟩
abbrev S8192x3 : Shape := ⟨2, ![8192, 3]⟩
abbrev S1x3 : Shape := ⟨2, ![1, 3]⟩
abbrev S8192x1 : Shape := ⟨2, ![8192, 1]⟩
abbrev S16384x1 : Shape := ⟨2, ![16384, 1]⟩
abbrev S16384x4 : Shape := ⟨2, ![16384, 4]⟩
abbrev S1x16384 : Shape := ⟨2, ![1, 16384]⟩
abbrev S8192 : Shape := ⟨1, ![8192]⟩
abbrev S4x16384 : Shape := ⟨2, ![4, 16384]⟩
abbrev S4x1024 : Shape := ⟨2, ![4, 1024]⟩
abbrev S1x1024 : Shape := ⟨2, ![1, 1024]⟩
abbrev S8192x1024 : Shape := ⟨2, ![8192, 1024]⟩
abbrev S64x128x1024 : Shape := ⟨3, ![64, 128, 1024]⟩
abbrev S64x1024 : Shape := ⟨2, ![64, 1024]⟩
abbrev S1024 : Shape := ⟨1, ![1024]⟩
abbrev S64x1x1024 : Shape := ⟨3, ![64, 1, 1024]⟩
abbrev S1x1x1024 : Shape := ⟨3, ![1, 1, 1024]⟩
abbrev S128x1024 : Shape := ⟨2, ![128, 1024]⟩
abbrev S384x1024 : Shape := ⟨2, ![384, 1024]⟩
abbrev S3x16384 : Shape := ⟨2, ![3, 16384]⟩
abbrev S49152 : Shape := ⟨1, ![49152]⟩
abbrev S49152x128 : Shape := ⟨2, ![49152, 128]⟩
abbrev S128 : Shape := ⟨1, ![128]⟩
abbrev S128x128 : Shape := ⟨2, ![128, 128]⟩
abbrev S3x16384x128 : Shape := ⟨3, ![3, 16384, 128]⟩
abbrev S16384x128 : Shape := ⟨2, ![16384, 128]⟩
abbrev S3x1024x128 : Shape := ⟨3, ![3, 1024, 128]⟩
abbrev S1024x4 : Shape := ⟨2, ![1024, 4]⟩
abbrev S1024x128 : Shape := ⟨2, ![1024, 128]⟩
abbrev S1x1024x128 : Shape := ⟨3, ![1, 1024, 128]⟩
abbrev S1024x1 : Shape := ⟨2, ![1024, 1]⟩

abbrev nBuf : Table → Nat
  | .hbm => 47
  | .local .tc .vmem => 16
  | .local .scVector .vmem => 2
  | _ => 0

abbrev bufTy : (tb : Table) → Fin (nBuf tb) → BufTy
  | .hbm, ⟨0, _⟩ => ⟨S8192x128, .f32⟩
  | .hbm, ⟨1, _⟩ => ⟨S8192x4, .i32⟩
  | .hbm, ⟨2, _⟩ => ⟨S16384x3, .f32⟩
  | .hbm, ⟨3, _⟩ => ⟨S16384, .i32⟩
  | .hbm, ⟨4, _⟩ => ⟨S_, .f32⟩
  | .hbm, ⟨5, _⟩ => ⟨S3, .f32⟩
  | .hbm, ⟨6, _⟩ => ⟨S_, .f32⟩
  | .hbm, ⟨7, _⟩ => ⟨S3, .f32⟩
  | .hbm, ⟨8, _⟩ => ⟨S8192x4, .f32⟩
  | .hbm, ⟨9, _⟩ => ⟨S8192x3, .f32⟩
  | .hbm, ⟨10, _⟩ => ⟨S1x3, .f32⟩
  | .hbm, ⟨11, _⟩ => ⟨S8192x3, .f32⟩
  | .hbm, ⟨12, _⟩ => ⟨S8192x3, .f32⟩
  | .hbm, ⟨13, _⟩ => ⟨S_, .f32⟩
  | .hbm, ⟨14, _⟩ => ⟨S3, .f32⟩
  | .hbm, ⟨15, _⟩ => ⟨S3, .f32⟩
  | .hbm, ⟨16, _⟩ => ⟨S1x3, .f32⟩
  | .hbm, ⟨17, _⟩ => ⟨S8192x3, .f32⟩
  | .hbm, ⟨18, _⟩ => ⟨S8192x3, .f32⟩
  | .hbm, ⟨19, _⟩ => ⟨S_, .f32⟩
  | .hbm, ⟨20, _⟩ => ⟨S3, .f32⟩
  | .hbm, ⟨21, _⟩ => ⟨S3, .f32⟩
  | .hbm, ⟨22, _⟩ => ⟨S1x3, .f32⟩
  | .hbm, ⟨23, _⟩ => ⟨S8192x3, .f32⟩
  | .hbm, ⟨24, _⟩ => ⟨S8192x3, .f32⟩
  | .hbm, ⟨25, _⟩ => ⟨S8192x1, .f32⟩
  | .hbm, ⟨26, _⟩ => ⟨S8192x4, .f32⟩
  | .hbm, ⟨27, _⟩ => ⟨S16384, .f32⟩
  | .hbm, ⟨28, _⟩ => ⟨S16384x1, .f32⟩
  | .hbm, ⟨29, _⟩ => ⟨S16384x4, .f32⟩
  | .hbm, ⟨30, _⟩ => ⟨S16384x4, .f32⟩
  | .hbm, ⟨31, _⟩ => ⟨S_, .f32⟩
  | .hbm, ⟨32, _⟩ => ⟨S16384, .f32⟩
  | .hbm, ⟨33, _⟩ => ⟨S1x16384, .f32⟩
  | .hbm, ⟨34, _⟩ => ⟨S8192x4, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S4x16384, .f32⟩
  | .hbm, ⟨39, _⟩ => ⟨S4x16384, .i32⟩
  | .hbm, ⟨40, _⟩ => ⟨S4x16384, .f32⟩
  | .hbm, ⟨41, _⟩ => ⟨S3x16384, .i32⟩
  | .hbm, ⟨42, _⟩ => ⟨S49152, .i32⟩
  | .hbm, ⟨43, _⟩ => ⟨S49152x128, .f32⟩
  | .hbm, ⟨44, _⟩ => ⟨S3x16384x128, .f32⟩
  | .hbm, ⟨45, _⟩ => ⟨S16384x4, .f32⟩
  | .hbm, ⟨46, _⟩ => ⟨S16384x128, .f32⟩
  | .local .tc .vmem, ⟨0, _⟩ => ⟨S8192x4, .f32⟩
  | .local .tc .vmem, ⟨1, _⟩ => ⟨S4x1024, .f32⟩
  | .local .tc .vmem, ⟨2, _⟩ => ⟨S4x1024, .f32⟩
  | .local .tc .vmem, ⟨3, _⟩ => ⟨S1x1024, .f32⟩
  | .local .tc .vmem, ⟨4, _⟩ => ⟨S1x1024, .f32⟩
  | .local .tc .vmem, ⟨5, _⟩ => ⟨S8192x1, .f32⟩
  | .local .tc .vmem, ⟨6, _⟩ => ⟨S4x1024, .i32⟩
  | .local .tc .vmem, ⟨7, _⟩ => ⟨S4x1024, .i32⟩
  | .local .tc .vmem, ⟨8, _⟩ => ⟨S4x1024, .f32⟩
  | .local .tc .vmem, ⟨9, _⟩ => ⟨S4x1024, .f32⟩
  | .local .tc .vmem, ⟨10, _⟩ => ⟨S3x1024x128, .f32⟩
  | .local .tc .vmem, ⟨11, _⟩ => ⟨S3x1024x128, .f32⟩
  | .local .tc .vmem, ⟨12, _⟩ => ⟨S1024x4, .f32⟩
  | .local .tc .vmem, ⟨13, _⟩ => ⟨S1024x4, .f32⟩
  | .local .tc .vmem, ⟨14, _⟩ => ⟨S1024x128, .f32⟩
  | .local .tc .vmem, ⟨15, _⟩ => ⟨S1024x128, .f32⟩
  | .local .scVector .vmem, ⟨0, _⟩ => ⟨S128, .i32⟩
  | .local .scVector .vmem, ⟨1, _⟩ => ⟨S128x128, .f32⟩
  | _, _ => ⟨S8192x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_arg0_scv : Ref sig .scVector := ⟨.hbm, 0, rfl⟩
abbrev main_v31_scv : Ref sig .scVector := ⟨.hbm, 42, rfl⟩
abbrev main_v32_scv : Ref sig .scVector := ⟨.hbm, 43, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8192x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

@[reducible] def k1_t1_loop : Scf.Loop 32 :=
  let c0_i32_0 : BitVec 32 := 0#32
  let c12_i32 : BitVec 32 := 12#32
  let v3 : BitVec 32 := Scalar.addi c0_i32_0 c12_i32
  let c1_i32 : BitVec 32 := 1#32
  ⟨c0_i32_0, v3, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1536_i32 : BitVec 32 := 1536#32
  let v2 : BitVec 32 := Scalar.muli v1 c1536_i32
  let c0_i32_0 : BitVec 32 := 0#32
  let c1_i32 : BitVec 32 := 1#32
  let arg8 : BitVec 32 := Scf.iv c0_i32_0 c1_i32 k1_t1
  let c128_i32 : BitVec 32 := 128#32
  let v4 : BitVec 32 := Scalar.muli arg8 c128_i32
  let v5 : BitVec 32 := Scalar.addi v2 v4
  ![v5.toNat]
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1536_i32 : BitVec 32 := 1536#32
  let v2 : BitVec 32 := Scalar.muli v1 c1536_i32
  let c0_i32_0 : BitVec 32 := 0#32
  let c1_i32 : BitVec 32 := 1#32
  let arg8 : BitVec 32 := Scf.iv c0_i32_0 c1_i32 k1_t1
  let c128_i32 : BitVec 32 := 128#32
  let v4 : BitVec 32 := Scalar.muli arg8 c128_i32
  let v5 : BitVec 32 := Scalar.addi v2 v4
  let c0_i32_6_r1 : BitVec 32 := 0#32
  ![v5.toNat, 0]
abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x128 : Shape := ⟨2, ![8192, 128]⟩
abbrev S8192x4 : Shape := ⟨2, ![8192, 4]⟩
abbrev S16384x3 : Shape := ⟨2, ![16384, 3]⟩
abbrev S16384 : Shape := ⟨1, ![16384]⟩
abbrev S_ : Shape := ⟨0, ![]⟩
abbrev S3 : Shape := ⟨1, ![3]⟩
abbrev S8192x3 : Shape := ⟨2, ![8192, 3]⟩
abbrev S1x3 : Shape := ⟨2, ![1, 3]⟩
abbrev S8192x1 : Shape := ⟨2, ![8192, 1]⟩
abbrev S16384x1 : Shape := ⟨2, ![16384, 1]⟩
abbrev S16384x4 : Shape := ⟨2, ![16384, 4]⟩
abbrev S8192 : Shape := ⟨1, ![8192]⟩
abbrev S1x8192 : Shape := ⟨2, ![1, 8192]⟩
abbrev S16384x8192 : Shape := ⟨2, ![16384, 8192]⟩
abbrev S4x8192 : Shape := ⟨2, ![4, 8192]⟩
abbrev S16384x3x1 : Shape := ⟨3, ![16384, 3, 1]⟩
abbrev S16384x3x128 : Shape := ⟨3, ![16384, 3, 128]⟩
abbrev S16384x128 : Shape := ⟨2, ![16384, 128]⟩

abbrev nBuf : Space → Nat
  | .hbm => 79
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x4, .i32⟩
  | .hbm, ⟨2, _⟩ => ⟨S16384x3, .f32⟩
  | .hbm, ⟨3, _⟩ => ⟨S16384, .i32⟩
  | .hbm, ⟨4, _⟩ => ⟨S_, .f32⟩
  | .hbm, ⟨5, _⟩ => ⟨S3, .f32⟩
  | .hbm, ⟨6, _⟩ => ⟨S_, .f32⟩
  | .hbm, ⟨7, _⟩ => ⟨S3, .f32⟩
  | .hbm, ⟨8, _⟩ => ⟨S8192x4, .f32⟩
  | .hbm, ⟨9, _⟩ => ⟨S8192x3, .f32⟩
  | .hbm, ⟨10, _⟩ => ⟨S1x3, .f32⟩
  | .hbm, ⟨11, _⟩ => ⟨S8192x3, .f32⟩
  | .hbm, ⟨12, _⟩ => ⟨S8192x3, .f32⟩
  | .hbm, ⟨13, _⟩ => ⟨S_, .f32⟩
  | .hbm, ⟨14, _⟩ => ⟨S3, .f32⟩
  | .hbm, ⟨15, _⟩ => ⟨S3, .f32⟩
  | .hbm, ⟨16, _⟩ => ⟨S1x3, .f32⟩
  | .hbm, ⟨17, _⟩ => ⟨S8192x3, .f32⟩
  | .hbm, ⟨18, _⟩ => ⟨S8192x3, .f32⟩
  | .hbm, ⟨19, _⟩ => ⟨S_, .f32⟩
  | .hbm, ⟨20, _⟩ => ⟨S3, .f32⟩
  | .hbm, ⟨21, _⟩ => ⟨S3, .f32⟩
  | .hbm, ⟨22, _⟩ => ⟨S1x3, .f32⟩
  | .hbm, ⟨23, _⟩ => ⟨S8192x3, .f32⟩
  | .hbm, ⟨24, _⟩ => ⟨S8192x3, .f32⟩
  | .hbm, ⟨25, _⟩ => ⟨S8192x1, .f32⟩
  | .hbm, ⟨26, _⟩ => ⟨S8192x4, .f32⟩
  | .hbm, ⟨27, _⟩ => ⟨S16384, .f32⟩
  | .hbm, ⟨28, _⟩ => ⟨S16384x1, .f32⟩
  | .hbm, ⟨29, _⟩ => ⟨S16384x4, .f32⟩
  | .hbm, ⟨30, _⟩ => ⟨S16384x4, .f32⟩
  | .hbm, ⟨31, _⟩ => ⟨S_, .f32⟩
  | .hbm, ⟨32, _⟩ => ⟨S16384, .f32⟩
  | .hbm, ⟨33, _⟩ => ⟨S8192x4, .f32⟩
  | .hbm, ⟨34, _⟩ => ⟨S_, .f32⟩
  | .hbm, ⟨35, _⟩ => ⟨S8192, .f32⟩
  | .hbm, ⟨36, _⟩ => ⟨S16384x1, .f32⟩
  | .hbm, ⟨37, _⟩ => ⟨S1x8192, .f32⟩
  | .hbm, ⟨38, _⟩ => ⟨S16384x8192, .f32⟩
  | .hbm, ⟨39, _⟩ => ⟨S16384x8192, .f32⟩
  | .hbm, ⟨40, _⟩ => ⟨S16384x8192, .f32⟩
  | .hbm, ⟨41, _⟩ => ⟨S4x8192, .f32⟩
  | .hbm, ⟨42, _⟩ => ⟨S16384x8192, .f32⟩
  | .hbm, ⟨43, _⟩ => ⟨S_, .f32⟩
  | .hbm, ⟨44, _⟩ => ⟨S16384x8192, .f32⟩
  | .hbm, ⟨45, _⟩ => ⟨S16384x8192, .f32⟩
  | .hbm, ⟨46, _⟩ => ⟨S16384x8192, .f32⟩
  | .hbm, ⟨47, _⟩ => ⟨S_, .f32⟩
  | .hbm, ⟨48, _⟩ => ⟨S16384x8192, .f32⟩
  | .hbm, ⟨49, _⟩ => ⟨S16384x8192, .f32⟩
  | .hbm, ⟨50, _⟩ => ⟨S16384x8192, .f32⟩
  | .hbm, ⟨51, _⟩ => ⟨S16384x3, .f32⟩
  | .hbm, ⟨52, _⟩ => ⟨S16384x3, .i32⟩
  | .hbm, ⟨53, _⟩ => ⟨S16384x3, .f32⟩
  | .hbm, ⟨54, _⟩ => ⟨S_, .f32⟩
  | .hbm, ⟨55, _⟩ => ⟨S16384x3, .f32⟩
  | .hbm, ⟨56, _⟩ => ⟨S16384x3, .f32⟩
  | .hbm, ⟨57, _⟩ => ⟨S_, .f32⟩
  | .hbm, ⟨58, _⟩ => ⟨S16384x3, .f32⟩
  | .hbm, ⟨59, _⟩ => ⟨S16384x3, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S16384x3, .f32⟩
  | .hbm, ⟨64, _⟩ => ⟨S16384x3, .f32⟩
  | .hbm, ⟨65, _⟩ => ⟨S_, .i32⟩
  | .hbm, ⟨66, _⟩ => ⟨S16384x3, .i32⟩
  | .hbm, ⟨67, _⟩ => ⟨S16384x3, .i1⟩
  | .hbm, ⟨68, _⟩ => ⟨S_, .i32⟩
  | .hbm, ⟨69, _⟩ => ⟨S16384x3, .i32⟩
  | .hbm, ⟨70, _⟩ => ⟨S16384x3, .i32⟩
  | .hbm, ⟨71, _⟩ => ⟨S16384x3, .i32⟩
  | .hbm, ⟨72, _⟩ => ⟨S16384x3x1, .i32⟩
  | .hbm, ⟨73, _⟩ => ⟨S16384x3x128, .f32⟩
  | .hbm, ⟨74, _⟩ => ⟨S16384x3x1, .f32⟩
  | .hbm, ⟨75, _⟩ => ⟨S16384x3x128, .f32⟩
  | .hbm, ⟨76, _⟩ => ⟨S16384x3x128, .f32⟩
  | .hbm, ⟨77, _⟩ => ⟨S_, .f32⟩
  | .hbm, ⟨78, _⟩ => ⟨S16384x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_values : Ref sig .tc := ⟨.hbm, 51, rfl⟩
abbrev main_indices : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Proof.Common.lean ====
/-
  The setting of the run: the program as the SparseCore launch reads it, the ghost state (the handshakes' rounds, the two
  pipelines' rounds, the transfers' counters), and the names of the arrays the SparseCore call moves.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.FrameBody
public import Idealize.ShloMosaic.Lib.Pipeline.RegionsLoop
public import Idealize.ShloMosaic.Lib.Pipeline.FrameSuffix
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI Idealize.SL.Sem
open Idealize.ShloMosaic.Rounds

variable {F : FTy → Type}

/-- The labels of the TensorCore pipelines. -/
abbrev ΛP : Labels := Pipeline.Sig Λ₀ (Fin 2) fun p => (pcfgs (F := F) p).Adm
/-- The program's SparseCore calls. -/
abbrev K : SparseCore.Cfg τ sig (ΛP (F := F)) 1 := sc (F := F)
/-- The bodies below the SparseCore calls: the kernels' and the pipelines'. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_eq : (K (F := F)).nSub 0 = 16 := rfl
theorem nCore_eq : (K (F := F)).nCore 0 = 2 := rfl

/-- The launch semaphores are distinct and stay outside every scope; no vector subcore's buffer is its sequencer's. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipelines' rounds. -/
abbrev UP : Type := URounds (GSem nD τ sig) Unit
/-- The whole ghost state: the handshakes', the pipelines' and the transfers' counters. -/
abbrev UU : Type := UH × (UP × Counters)

abbrev EH : Emb UH (MT nD τ sig (HIx 1) (Elt F) ℕ UU ℕ) := embL
/-- The pipelines' rounds in the machine's algebra: the left half of the right component. -/
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

/-- The feature table, the row numbers and the gathered rows, where the SparseCore call finds them. -/
abbrev xLoc (d : Dev nD) : Loc nD τ sig := (SparseCore.T d).loc main_arg0
abbrev iLoc (d : Dev nD) : Loc nD τ sig := (SparseCore.T d).loc main_v31
abbrev oLoc (d : Dev nD) : Loc nD τ sig := (SparseCore.T d).loc main_v32

end Cert.Proof

end
-- ==== Proof.Gather.lean ====
/-
  The SparseCore call: 32 vector subcores, each with a block of 1536 of the 49152 row numbers, copying in twelve trips 128 row
  numbers in, the rows of the feature table they name in, and those rows out to its block of the result. Stated at ANY contents of
  the table, of the row numbers (each below 8192) and of the result's buffer, with the value carried: row `r` of the result ends as
  row `idx[r]` of the table.
-/
module

public import proofs.«01_k».proof.Proof.Common
public import Idealize.ShloMosaic.Lib.Scf

@[expose] public section

noncomputable section

namespace Cert.Proof

open Cert.KernelIdeal Cert.KernelIdeal.Gen
open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the contents the call finds: the table, the row numbers, the result's buffer
variable (X : (d : Dev nD) → Buf (Elt F) (xLoc d)) (J : (d : Dev nD) → Buf (Elt F) (iLoc d)) (Z : (d : Dev nD) → Buf (Elt F) (oLoc d))

/-- Every row number names a row of the table. -/
def InRange : Prop := ∀ (d : Dev nD) (j : S49152.Idx), (J d j).toNat < 8192

/-- Position `r` of the row numbers. -/
abbrev at1 (r : Fin 49152) : S49152.Idx := fun | 0 => r
/-- Row `r`, column `c` of the table. -/
abbrev at2 (r : Fin 8192) (c : Fin 128) : S8192x128.Idx := fun | 0 => r | 1 => c

/-- The gathered rows: row `r` is row `idx[r]` of the table. -/
def gat (d : Dev nD) : Buf (Elt F) (oLoc d) := fun j : S49152x128.Idx =>
  X d (at2 ⟨(J d (at1 (j 0))).toNat % 8192, Nat.mod_lt _ (by norm_num)⟩ (j 1))

/-- The result before trip `k` of the subcore whose block begins at row `b`: the first `128 k` rows of the block gathered, the
    rest as found. -/
def mid (d : Dev nD) (b k : ℕ) : Buf (Elt F) (oLoc d) := fun j : S49152x128.Idx =>
  if (j 0).val < b + 128 * k then gat X J d j else Z d j

/-- The rows of the block beginning at row `b`. -/
def blockSet (b : ℕ) : Finset S49152x128.Idx := Finset.univ.filter fun j => b ≤ (j 0).val ∧ (j 0).val < b + 1536

theorem mem_blockSet {b : ℕ} {j : S49152x128.Idx} : j ∈ blockSet b ↔ b ≤ (j 0).val ∧ (j 0).val < b + 1536 :=
  Finset.mem_filter.trans (and_iff_right (Finset.mem_univ _))

/-- Subcore `s` of SparseCore `c` begins at row `3072 s + 1536 c`. -/
def base (c s : ℕ) : ℕ := 3072 * s + 1536 * c

theorem sharePos : 0 < 32 := by norm_num

/-- The 32 subcores numbered. -/
def e32 : Fin 2 × Fin 16 ≃ Fin 32 := finProdFinEquiv

/-- The share of the table and of the row numbers that subcore `s` of SparseCore `c` reads at. -/
def rq (c : Fin 2) (s : Fin 16) : PosShare TreeShare := pieceOf fullShare 32 sharePos (e32 (c, s))

/-- What a subcore is handed: its shares of the table and of the row numbers, its block of the result, -/
def goRes (d : Dev nD) (c : Fin 2) (s : Fin 16) : sProp 𝕄 :=
  iprop((xLoc d ↦{rq c s} X d) ∗ (iLoc d ↦{rq c s} J d) ∗ oLoc d ↦[blockSet (base c s)]{fullShare} Z d)
/-- and what it hands back: the same shares, its block gathered. -/
def tdRes (d : Dev nD) (c : Fin 2) (s : Fin 16) : sProp 𝕄 :=
  iprop((xLoc d ↦{rq c s} X d) ∗ (iLoc d ↦{rq c s} J d) ∗ oLoc d ↦[blockSet (base c s)]{fullShare} gat X J d)

instance goRes_storable (d : Dev nD) (c : Fin 2) (s : Fin 16) : BI.Storable (upEmb : UEmb _ 𝕄) (goRes X J Z d c s) := by
  unfold goRes; infer_instance
instance tdRes_storable (d : Dev nD) (c : Fin 2) (s : Fin 16) : BI.Storable (upEmb : UEmb _ 𝕄) (tdRes X J d c s) := by
  unfold tdRes; infer_instance

/-- The handshakes' payloads: a SparseCore is handed its sixteen subcores' resources and hands them back. -/
def P : (K (F := F)).Pay (nD := nD) (Val := Elt F) (Name := ℕ) (U := UU) where
  st := fun q d c => match q with | 0 => bigSep Finset.univ fun s : Fin 16 => goRes X J Z d (Fin.cast nCore_eq c) s
  dn := fun q d c => match q with | 0 => bigSep Finset.univ fun s : Fin 16 => tdRes X J d (Fin.cast nCore_eq c) s
  go := fun q d c i => match q with | 0 => goRes X J Z d (Fin.cast nCore_eq c) (Fin.cast nSub_eq i)
  td := fun q d c i => match q with | 0 => tdRes X J d (Fin.cast nCore_eq c) (Fin.cast nSub_eq i)
  x := fun _ _ => iprop(emp)

instance P_storable : (P (F := F) X J Z).IsStorable where
  st q d c := match q with
    | 0 => (inferInstance : BI.Storable (upEmb : UEmb _ 𝕄) (bigSep Finset.univ fun s : Fin 16 => goRes X J Z d (Fin.cast nCore_eq c) s))
  dn q d c := match q with
    | 0 => (inferInstance : BI.Storable (upEmb : UEmb _ 𝕄) (bigSep Finset.univ fun s : Fin 16 => tdRes X J d (Fin.cast nCore_eq c) s))
  go q d c i := match q with
    | 0 => (inferInstance : BI.Storable (upEmb : UEmb _ 𝕄) (goRes X J Z d (Fin.cast nCore_eq c) (Fin.cast nSub_eq i)))
  td q d c i := match q with
    | 0 => (inferInstance : BI.Storable (upEmb : UEmb _ 𝕄) (tdRes X J d (Fin.cast nCore_eq c) (Fin.cast nSub_eq i)))

/-- A SparseCore's resources are its subcores': nothing to split. -/
theorem vecSplit : (K (F := F)).VecSplit' (P X J Z) 0 := by
  intro d c
  show (bigSep Finset.univ fun s : Fin 16 => goRes X J Z d (Fin.cast nCore_eq c) s) ⊢ |={Set.univ}=> iprop(
      (bigSep Finset.univ fun i : Fin 16 => goRes X J Z d (Fin.cast nCore_eq c) i)
      ∗ ((bigSep Finset.univ fun i : Fin 16 => tdRes X J d (Fin.cast nCore_eq c) i)
          -∗ bigSep Finset.univ fun s : Fin 16 => tdRes X J d (Fin.cast nCore_eq c) s))
  iintro H; imodintro
  isplitl [H]; · iexact H
  iintro H; iexact H

/-! ## The whole arrays as the subcores' parts -/

theorem block_disjoint : ∀ i ∈ (Finset.univ : Finset (Fin 2 × Fin 16)), ∀ j ∈ (Finset.univ : Finset (Fin 2 × Fin 16)), i ≠ j →
    Disjoint (blockSet (base i.1 i.2)) (blockSet (base j.1 j.2)) := by
  rintro ⟨c, s⟩ - ⟨c', s'⟩ - h
  refine Finset.disjoint_left.mpr fun j hj hj' => h ?_
  rw [mem_blockSet] at hj hj'
  unfold base at hj hj'
  dsimp only at hj hj'
  have hc := c.isLt; have hc' := c'.isLt
  refine Prod.ext (Fin.ext ?_) (Fin.ext ?_) <;> dsimp only <;> omega

theorem block_cover : (Finset.univ : Finset (Fin 2 × Fin 16)).biUnion (fun i => blockSet (base i.1 i.2)) = Finset.univ := by
  refine Finset.eq_univ_iff_forall.mpr fun j => Finset.mem_biUnion.mpr ?_
  have hj : (j 0).val < 49152 := (j 0).isLt
  refine ⟨(⟨(j 0).val / 1536 % 2, Nat.mod_lt _ (by norm_num)⟩, ⟨(j 0).val / 3072, Nat.div_lt_of_lt_mul hj⟩), Finset.mem_univ _, ?_⟩
  rw [mem_blockSet]
  unfold base
  dsimp only
  omega

theorem whole_blocks (d : Dev nD) (f : Buf (Elt F) (oLoc d)) :
    (oLoc d ↦{fullShare} f : sProp 𝕄)
      = bigSep Finset.univ fun c : Fin 2 => bigSep Finset.univ fun s : Fin 16 => oLoc d ↦[blockSet (base c s)]{fullShare} f := by
  rw [← bigSep_univ_prod (fun i : Fin 2 × Fin 16 => (oLoc d ↦[blockSet (base i.1 i.2)]{fullShare} f : sProp 𝕄)),
    ← pointsTo_biUnion Finset.univ (ℓ := oLoc d) (fun i : Fin 2 × Fin 16 => blockSet (base i.1 i.2)) block_disjoint, block_cover]
  try rfl

theorem whole_shares {ℓ : Loc nD τ sig} (f : Buf (Elt F) ℓ) :
    (ℓ ↦{fullShare} f : sProp 𝕄) = bigSep Finset.univ fun c : Fin 2 => bigSep Finset.univ fun s : Fin 16 => ℓ ↦{rq c s} f := by
  rw [← bigSep_univ_prod (fun i : Fin 2 × Fin 16 => (ℓ ↦{rq i.1 i.2} f : sProp 𝕄))]
  exact (pointsTo_piecesOf Finset.univ f sharePos fullShare).trans
    (bigSep_univ_equiv e32 fun k : Fin 32 => (ℓ ↦{pieceOf fullShare 32 sharePos k} f : sProp 𝕄))

/-- The three arrays whole are every subcore's resources, -/
theorem st_whole (d : Dev nD) :
    (bigSep Finset.univ fun c : Fin ((K (F := F)).nCore 0) => (P X J Z).st 0 d c)
      = (iprop((xLoc d ↦{fullShare} X d) ∗ (iLoc d ↦{fullShare} J d) ∗ oLoc d ↦{fullShare} Z d) : sProp 𝕄) := by
  show (bigSep Finset.univ fun c : Fin 2 => bigSep Finset.univ fun s : Fin 16 => goRes X J Z d c s) = _
  rw [whole_shares (X d), whole_shares (J d), whole_blocks d (Z d)]
  unfold goRes
  simp only [bigSep_sep']

/-- and what every subcore hands back are the three arrays whole, the result gathered. -/
theorem dn_whole (d : Dev nD) :
    (bigSep Finset.univ fun c : Fin ((K (F := F)).nCore 0) => (P X J Z).dn 0 d c)
      = (iprop((xLoc d ↦{fullShare} X d) ∗ (iLoc d ↦{fullShare} J d) ∗ oLoc d ↦{fullShare} gat X J d) : sProp 𝕄) := by
  show (bigSep Finset.univ fun c : Fin 2 => bigSep Finset.univ fun s : Fin 16 => tdRes X J d c s) = _
  rw [whole_shares (X d), whole_shares (J d), whole_blocks d (gat X J d)]
  unfold tdRes
  simp only [bigSep_sep']

end Cert.Proof

end
-- ==== Proof.Tile.lean ====
/-
  One vector subcore's task: its twelve trips, each fetching 128 row numbers, gathering the 128 rows they name and copying them to
  the subcore's block of the result.
-/
module

public import proofs.«01_k».proof.Proof.Gather

@[expose] public section

noncomputable section

namespace Cert.Proof

open Cert.KernelIdeal Cert.KernelIdeal.Gen
open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (X : (d : Dev nD) → Buf (Elt F) (xLoc d)) (J : (d : Dev nD) → Buf (Elt F) (iLoc d)) (Z : (d : Dev nD) → Buf (Elt F) (oLoc d))

abbrev xV : Memref sig .scVector .hbm S8192x128 .f32 := Memref.whole main_arg0_scv
abbrev iV : Memref sig .scVector .hbm S49152 .i32 := Memref.whole main_v31_scv
abbrev oV : Memref sig .scVector .hbm S49152x128 .f32 := Memref.whole main_v32_scv
abbrev sV : Memref sig .scVector .vmem S128 .i32 := Memref.whole cc1_scratch0
abbrev rV : Memref sig .scVector .vmem S128x128 .f32 := Memref.whole cc1_scratch1

section Trip

variable (d : Dev nD) (L : grid1.Coords)

abbrev cV (L : grid1.Coords) : Fin τ.nSC := (L 0).castLE hcore1
abbrev jV (L : grid1.Coords) : Fin τ.nSub := (L 1).castLE hsub1
/-- The subcore. -/
abbrev vth : Thread nD τ := V d (cV L) (jV L)
/-- The first row of its block. -/
abbrev bL : ℕ := base (L 0).val (L 1).val
/-- Its share of what it reads. -/
abbrev qL : PosShare TreeShare := rq (L 0) (L 1)

/-- The 128 row numbers of trip `k`, the block of 128 result rows of trip `k`, and the whole table, as the task addresses them. -/
abbrev iSl (k : Fin k1_t1_loop.trips) : Memref sig .scVector .hbm S128 .i32 :=
  (iV).slice (Rect.unit (s := S49152) (k1_off1 L k) S128.size (k1_off1_inb L k)) (fun _ => rfl)
abbrev oSl (k : Fin k1_t1_loop.trips) : Memref sig .scVector .hbm S128x128 .f32 :=
  (oV).slice (Rect.unit (s := S49152x128) (k1_off2 L k) S128x128.size (k1_off2_inb L k)) (fun _ => rfl)
abbrev xAll : Memref sig .scVector .hbm S8192x128 .f32 :=
  (xV).slice (Rect.unit (s := S8192x128) ![0, 0] S8192x128.size inb_S8192x128_S8192x128_0_0) (fun _ => rfl)

abbrev cellA : GSem nD τ sig := (vth d L, .dma cc1_scoped0.sem)
abbrev cellB : GSem nD τ sig := (vth d L, .dma cc1_scratch2.sem)
abbrev cellC : GSem nD τ sig := (vth d L, .dma cc1_scoped1.sem)

theorem trips_le : k1_t1_loop.trips ≤ 12 := k1_t1_abs.2.1

theorem emb_iSl (k : Fin k1_t1_loop.trips) (x : S128.Idx) : ((((iSl L k).view.emb x : S49152.Idx)) 0).val = bL L + 128 * k.val + (x 0).val := by
  have h : ((((iSl L k).view.emb x : S49152.Idx)) 0).val = k1_off1 L k 0 + 1 * (x 0).val := rfl
  rw [h, k1_off1_eq]
  show 3072 * (L 1).val + 1536 * (L 0).val + 128 * k.val + 1 * (x 0).val = _
  unfold bL base; omega

theorem emb_oSl0 (k : Fin k1_t1_loop.trips) (x : S128x128.Idx) : ((((oSl L k).view.emb x : S49152x128.Idx)) 0).val = bL L + 128 * k.val + (x 0).val := by
  have h : ((((oSl L k).view.emb x : S49152x128.Idx)) 0).val = k1_off2 L k 0 + 1 * (x 0).val := rfl
  rw [h, k1_off2_eq]
  show 3072 * (L 1).val + 1536 * (L 0).val + 128 * k.val + 1 * (x 0).val = _
  unfold bL base; omega

theorem emb_oSl1 (k : Fin k1_t1_loop.trips) (x : S128x128.Idx) : ((((oSl L k).view.emb x : S49152x128.Idx)) 1).val = (x 1).val := by
  have h : ((((oSl L k).view.emb x : S49152x128.Idx)) 1).val = k1_off2 L k 1 + 1 * (x 1).val := rfl
  rw [h, k1_off2_eq]
  show 0 + 1 * (x 1).val = _
  omega

/-- The rows trip `k` writes: `128 k` to `128 k + 127` of the block. -/
theorem mem_oSl (k : Fin k1_t1_loop.trips) (j : S49152x128.Idx) :
    j ∈ (oSl L k).view.set ↔ bL L + 128 * k.val ≤ (j 0).val ∧ (j 0).val < bL L + 128 * k.val + 128 := by
  constructor
  · intro h
    obtain ⟨x, -, rfl⟩ := Finset.mem_map.mp h
    rw [emb_oSl0 L k x]
    have : (x 0).val < 128 := (x 0).isLt
    omega
  · rintro ⟨h1, h2⟩
    let x : S128x128.Idx := fun | 0 => (⟨(j 0).val - (bL L + 128 * k.val), by omega⟩ : Fin 128) | 1 => (j 1 : Fin 128)
    refine Finset.mem_map.mpr ⟨x, Finset.mem_univ _, funext fun a => Fin.ext ?_⟩
    match a with
    | 0 => exact (emb_oSl0 L k x).trans (show bL L + 128 * k.val + ((j 0).val - (bL L + 128 * k.val)) = (j 0).val by omega)
    | 1 => exact emb_oSl1 L k x

theorem oSl_sub (k : Fin k1_t1_loop.trips) : (oSl L k).view.set ⊆ blockSet (bL L) := fun j hj => by
  have h := (mem_oSl L k j).mp hj
  have hk := k.isLt; have ht := trips_le
  exact mem_blockSet.mpr ⟨by omega, by omega⟩

variable {X J}

/-- The row numbers in the subcore's list buffer after the fetch of trip `k` name rows of the table. -/
theorem list_inb (hJ : InRange J) (k : Fin k1_t1_loop.trips) (fs : Buf (Elt F) ((vth d L).loc cc1_scratch0)) (pay : S128.Idx → Elt F .i32)
    (hpay : pay = (iSl L k).view.read (Elt F) (J d)) :
    ∀ x, ((sV).view.read (Elt F) (View.write (Elt F) (sV).view fs pay Finset.univ) x).toNat < S8192x128.size gathers_S8192x128_S128x128.axis := by
  subst hpay; intro x
  rw [View.write_whole_univ]
  simp only [Memref.view_whole, View.read_whole]
  rw [show ∀ j, (iSl L k).view.read (Elt F) (J d) j = J d ((iSl L k).view.emb j) from fun j => (View.read_apply _ _).trans (cast_eq _ _)]
  exact hJ d _

/-- What the gather of trip `k` delivers: at each index, the gathered rows' value at the index's place in the result. -/
theorem pay_eq (hJ : InRange J) (k : Fin k1_t1_loop.trips) (fs : Buf (Elt F) ((vth d L).loc cc1_scratch0)) (pay : S128.Idx → Elt F .i32)
    (hpay : pay = (iSl L k).view.read (Elt F) (J d)) (hn : S128.numel = S128x128.size gathers_S8192x128_S128x128.axis')
    (hin : ∀ x, ((sV).view.read (Elt F) (View.write (Elt F) (sV).view fs pay Finset.univ) x).toNat < S8192x128.size gathers_S8192x128_S128x128.axis)
    (x : S128x128.Idx) :
    SparseCore.gatherPayload gathers_S8192x128_S128x128 ((xAll).view.read (Elt F) (X d))
      (SparseCore.rows ((sV).view.read (Elt F) (View.write (Elt F) (sV).view fs pay Finset.univ)) hn hin) x
      = gat X J d ((oSl L k).view.emb x) := by
  subst hpay
  have hrd : ∀ y, (sV).view.read (Elt F) (View.write (Elt F) (sV).view fs ((iSl L k).view.read (Elt F) (J d)) Finset.univ) y
      = J d ((iSl L k).view.emb y) := fun y => by
    rw [View.write_whole_univ]
    simp only [Memref.view_whole, View.read_whole]
    exact (View.read_apply _ _).trans (cast_eq _ _)
  unfold SparseCore.gatherPayload gat
  refine ((View.read_apply _ _).trans (cast_eq _ _)).trans (congrArg (X d) (funext fun a => Fin.ext ?_))
  generalize (sV).view.read (Elt F) (View.write (Elt F) (sV).view fs ((iSl L k).view.read (Elt F) (J d)) Finset.univ) = R at hin hrd ⊢
  match a with
  | 0 =>
    have hx : (xAll.view.emb (gathers_S8192x128_S128x128.idx (SparseCore.rows R hn hin) x) (0 : Fin 2)).val
        = 0 + 1 * (gathers_S8192x128_S128x128.idx (SparseCore.rows R hn hin) x gathers_S8192x128_S128x128.axis).val := rfl
    refine hx.trans ((congrArg (fun n => 0 + 1 * Fin.val n) (Shape.Gathers.idx_axis gathers_S8192x128_S128x128 (SparseCore.rows R hn hin) x)).trans ?_)
    have hr : (SparseCore.rows R hn hin (x gathers_S8192x128_S128x128.axis')).val = (R (S128.rowMajor.symm ((x (0 : Fin 2)).cast hn.symm))).toNat := rfl
    refine (congrArg (fun n => 0 + 1 * n) (hr.trans (congrArg BitVec.toNat (hrd _)))).trans ?_
    refine ((show ∀ n : ℕ, 0 + 1 * n = n by omega) _).trans ((?_ : _ = _).trans (Nat.mod_eq_of_lt (hJ d _)).symm)
    refine congrArg (fun j => (J d j).toNat) (funext fun b => Fin.ext ?_)
    match b with
    | 0 =>
      refine (emb_iSl L k _).trans ((?_ : _ = bL L + 128 * k.val + (x 0).val).trans (emb_oSl0 L k x).symm)
      congr 1
      refine (Shape.rowMajor_val_one _).symm.trans ?_
      exact congrArg Fin.val (Equiv.apply_symm_apply S128.rowMajor _)
  | 1 =>
    have hx : (xAll.view.emb (gathers_S8192x128_S128x128.idx (SparseCore.rows R hn hin) x) (1 : Fin 2)).val
        = 0 + 1 * (gathers_S8192x128_S128x128.idx (SparseCore.rows R hn hin) x (1 : Fin 2)).val := rfl
    have hx' := Shape.Gathers.idx_of_ne gathers_S8192x128_S128x128 (SparseCore.rows R hn hin) x (1 : Fin 2) Nat.one_ne_zero
    refine hx.trans ((congrArg (fun n => 0 + 1 * n) hx').trans (.trans ?_ (emb_oSl1 L k x).symm))
    show 0 + 1 * (x 1).val = (x 1).val
    omega

/-- The block's rows after the copy-out of trip `k`: where the copy wrote `w`, -/
theorem writes_oSl (k : Fin k1_t1_loop.trips) (f : Buf (Elt F) (oLoc d)) (w : S128x128.Idx → Elt F .f32) (x : S128x128.Idx) :
    (oSl L k).view.writes (Elt F) f [⟨Rect.whole S128x128, w⟩] ((oSl L k).view.emb x) = w x := by
  have he : ((oSl L k).view.slice (Rect.whole S128x128)).emb x = (oSl L k).view.emb x :=
    congrArg (oSl L k).view.emb (funext fun a => Fin.ext (show 0 + 1 * (x a).val = (x a).val by omega))
  refine (congrArg _ he.symm).trans ((View.write_emb_of_mem (v := (oSl L k).view.slice (Rect.whole S128x128)) f w (Finset.mem_univ x)).trans (cast_eq _ _))

variable (X J)

/-- What the subcore holds before trip `k`: its shares, its block with the first `k` pieces gathered, its scratch, its three cells at
    zero, what it owes with waits of the copies alone recorded since the task began. -/
def tripRes (O : CellTallies nD τ sig (HIx 1)) (W : Waits sig (HIx 1)) (k : ℕ) : sProp 𝕄 :=
  iprop(levAts (K (F := F)).L (K (F := F)).lev
    ∗ (xLoc d ↦{qL L} X d) ∗ (iLoc d ↦{qL L} J d) ∗ (oLoc d ↦[blockSet (bL L)]{fullShare} mid X J Z d (bL L) k)
    ∗ (∃ fs, (vth d L).loc cc1_scratch0 ↦{fullShare} fs) ∗ (∃ fr, (vth d L).loc cc1_scratch1 ↦{fullShare} fr)
    ∗ semVal (cellA d L) 0 ∗ semVal (cellB d L) 0 ∗ semVal (cellC d L) 0
    ∗ ∃ W', ⌜∀ p ∈ W', p ∈ W ∨ p.2 = none⌝ ∗ owes (vth d L) O W')

theorem pts_xV (q : PosShare TreeShare) (f : Buf (Elt F) (xLoc d)) :
    ((xAll).view.loc (vth d L) ↦{q} f : sProp 𝕄) = xLoc d ↦{q} f := rfl
theorem pts_iV (k : Fin k1_t1_loop.trips) (q : PosShare TreeShare) (f : Buf (Elt F) (iLoc d)) :
    ((iSl L k).view.loc (vth d L) ↦{q} f : sProp 𝕄) = iLoc d ↦{q} f := rfl
theorem pts_oV (k : Fin k1_t1_loop.trips) (I : Finset S49152x128.Idx) (q : PosShare TreeShare) (f : Buf (Elt F) (oLoc d)) :
    ((oSl L k).view.loc (vth d L) ↦[I]{q} f : sProp 𝕄) = oLoc d ↦[I]{q} f := rfl
theorem pts_sV (f : Buf (Elt F) ((vth d L).loc cc1_scratch0)) :
    ((sV).view.loc (vth d L) ↦{fullShare} f : sProp 𝕄) = (vth d L).loc cc1_scratch0 ↦{fullShare} f := rfl
theorem pts_rV (f : Buf (Elt F) ((vth d L).loc cc1_scratch1)) :
    ((rV).view.loc (vth d L) ↦{fullShare} f : sProp 𝕄) = (vth d L).loc cc1_scratch1 ↦{fullShare} f := rfl

set_option maxHeartbeats 4000000 in
/-- One trip: the row numbers fetched, the rows they name gathered, the rows copied out to their place. -/
theorem trip (hJ : InRange J) (O : CellTallies nD τ sig (HIx 1)) (W : Waits sig (HIx 1)) (hO : ∀ g, O g none = 0)
    (k : Fin k1_t1_loop.trips) (acc : Unit) :
    tripRes X J Z d L O W k.val
      ⊢ wp frame (wpE (defs₀ (F := F)) 𝒱₀ (vth d L) none) Set.univ
          (k1_t1_body L xV (Memref.isWhole_whole _) iV (Memref.isWhole_whole _) oV (Memref.isWhole_whole _)
            sV (Memref.isWhole_whole _) rV (Memref.isWhole_whole _) cc1_scratch2 cc1_scoped0 cc1_scoped1 k acc)
          fun _ => tripRes X J Z d L O W (k.val + 1) := by
  unfold tripRes k1_t1_body
  iintro ⟨#Hlv, Hx, Hi, Ho, ⟨%fs, Hs⟩, ⟨%fr, Hr⟩, HsemA, HsemB, HsemC, %W', %hW', HO⟩
  ihave Hmw := (show levAts (K (F := F)).L (K (F := F)).lev ⊢ Transfers.MayWaits (vth d L) (default : HIx 1) O from
    (K (F := F)).mayWaits_none (thr := vth d L) hO) $$ Hlv
  ihave Hi2 := (pointsTo_split_subset (q := qL L) (f := J d) (S := Finset.univ) (Finset.subset_univ (iSl L k).view.set)).1 $$ Hi
  icases Hi2 with ⟨Hi, Hirest⟩
  ihave Hi' := (Entails.of_eq (show (iLoc d ↦[(iSl L k).view.set]{qL L} J d : sProp 𝕄) = (iSl L k).view.loc (vth d L) ↦[(iSl L k).view.set]{qL L} J d from rfl)) $$ Hi
  ihave Hx2 := (pointsTo_split_subset (q := qL L) (f := X d) (S := Finset.univ) (Finset.subset_univ (xAll).view.set)).1 $$ Hx
  icases Hx2 with ⟨Hx, Hxrest⟩
  ihave Hx' := (Entails.of_eq (show (xLoc d ↦[(xAll).view.set]{qL L} X d : sProp 𝕄) = (xAll).view.loc (vth d L) ↦[(xAll).view.set]{qL L} X d from rfl)) $$ Hx
  ihave Ho2 := (pointsTo_split_subset (q := fullShare) (f := mid X J Z d (bL L) k.val) (oSl_sub L k)).1 $$ Ho
  icases Ho2 with ⟨Ho, Horest⟩
  ihave Ho' := (Entails.of_eq (show (oLoc d ↦[(oSl L k).view.set]{fullShare} mid X J Z d (bL L) k.val : sProp 𝕄)
    = (oSl L k).view.loc (vth d L) ↦[(oSl L k).view.set]{fullShare} mid X J Z d (bL L) k.val from rfl)) $$ Ho
  ihave Hs' := (Entails.of_eq (pts_sV (F := F) d L _).symm) $$ Hs
  ihave Hr' := (Entails.of_eq (pts_rV (F := F) d L _).symm) $$ Hr
  sl_exec
  have hrs : (rV).view.set = Finset.univ := View.set_whole _
  have hss : (sV).view.set = Finset.univ := View.set_whole _
  ihave Hr'' := (Entails.of_eq (show ((rV).view.loc (vth d L) ↦{fullShare} fr : sProp 𝕄)
      = (rV).view.loc (vth d L) ↦[(rV).view.set]{fullShare} fr by rw [hrs])) $$ Hr'
  ihave Hs'' := (Entails.of_eq (show ((sV).view.loc (vth d L) ↦{fullShare} View.write (Elt F) (sV).view fs (trip.sl.dma0 J d L k) Finset.univ : sProp 𝕄)
      = (sV).view.loc (vth d L) ↦[(sV).view.set]{fullShare} View.write (Elt F) (sV).view fs (trip.sl.dma0 J d L k) Finset.univ
      by rw [hss])) $$ Hs'
  have hN : ∀ h : S8192x128.Gathers 0 S128x128, ∑ j, ((rV).slice (S128x128.rowRect h.axis' j) (S128x128.stride_rowRect h.axis' j)).view.dmaCredit
      = (rV).view.dmaCredit := by decide
  iapply (SparseCore.wp_indirectGatherLocal countersEmb 𝒱₀ (vth d L) none (hg := gathers_S8192x128_S128x128) (default : HIx 1)
      (rV).view.dmaCredit (hN _) (by decide) (list_inb d L hJ k fs _ rfl)) $$ [Hx' Hr'' Hs'' HsemB]
  · isplitl [Hx']; · iexact Hx'
    isplitl [Hr'']; · iexact Hr''
    isplitl [Hs'']; · iexact Hs''
    iexact HsemB
  iintro Hfl
  sl_exec
  iapply (Transfers.wp_waitLocalO countersEmb 𝒱₀ (vth d L) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hx', Hs'⟩, HsemB, HO⟩
  ihave Hr3 := (Entails.of_eq (show ((rV).view.loc (vth d L) ↦[(rV).view.set]{fullShare} _ : sProp 𝕄)
      = (rV).view.loc (vth d L) ↦{fullShare} _ by rw [hrs])) $$ Hr'
  ihave Hs3 := (Entails.of_eq (show ((sV).view.loc (vth d L) ↦[(sV).view.set]{fullShare} _ : sProp 𝕄)
      = (sV).view.loc (vth d L) ↦{fullShare} _ by rw [hss])) $$ Hs'
  sl_exec
  sl_step
  -- the copy's piece at the gathered rows, the rest of the block unchanged: the block before the next trip
  ihave Ho3 := (Entails.of_eq (pointsTo_congr (q := fullShare) (ℓ := oLoc d) (I := (oSl L k).view.set)
    (f := (oSl L k).view.writes (Elt F) (mid X J Z d (bL L) k.val) [⟨Rect.whole S128x128, trip.sl.dma0_1 X J d L hJ k fs fr⟩])
    (g := mid X J Z d (bL L) (k.val + 1)) fun i hi => by
      obtain ⟨x, -, rfl⟩ := Finset.mem_map.mp hi
      have h0 := (mem_oSl L k _).mp hi
      refine (writes_oSl d L k _ _ x).trans (.trans ?_ (if_pos (show (_ : ℕ) < bL L + 128 * (k.val + 1) by omega)).symm)
      refine .trans ?_ (pay_eq d L hJ k fs _ rfl (by rfl) (list_inb d L hJ k fs _ rfl) x)
      unfold trip.sl.dma0_1
      rw [View.write_whole_univ]
      rfl)) $$ Ho'
  ihave Hrest3 := (Entails.of_eq (pointsTo_congr (q := fullShare) (ℓ := oLoc d) (I := blockSet (bL L) \ (oSl L k).view.set)
    (f := mid X J Z d (bL L) k.val) (g := mid X J Z d (bL L) (k.val + 1)) fun i hi => by
      obtain ⟨hi, hn⟩ := Finset.mem_sdiff.mp hi
      have h0 := mem_blockSet.mp hi
      rw [mem_oSl] at hn
      unfold mid
      by_cases hlt : (i 0).val < bL L + 128 * k.val
      · rw [if_pos hlt, if_pos (by omega)]
      · rw [if_neg hlt, if_neg (by omega)])) $$ Horest
  ihave Ho := (pointsTo_split_subset (q := fullShare) (f := mid X J Z d (bL L) (k.val + 1)) (oSl_sub L k)).2 $$ [Ho3 Hrest3]
  · isplitl [Ho3] <;> iassumption
  ihave Hx := (pointsTo_split_subset (q := qL L) (f := X d) (S := Finset.univ) (Finset.subset_univ (xAll).view.set)).2 $$ [Hx' Hxrest]
  · isplitl [Hx'] <;> iassumption
  isplitr; · iexact Hlv
  isplitl [Hx]; · iexact Hx
  isplitl [Hirest]; · iexact Hirest
  isplitl [Ho]; · iexact Ho
  isplitl [Hs3]; · iexists _; iexact Hs3
  isplitl [Hr3]; · iexists _; iexact Hr3
  isplitl [HsemA]; · iexact HsemA
  isplitl [HsemB]; · iexact HsemB
  isplitl [HsemC]; · iexact HsemC
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

theorem ownSems0_V :
    (ownSems0 (vth d L) : sProp 𝕄)
      = iprop(semVal (cellA d L) 0 ∗ semVal (cellB d L) 0 ∗ semVal (cellC d L) 0
          ∗ bigSep ((((ownCells (vth d L)).erase (cellA d L)).erase (cellB d L)).erase (cellC d L)) fun g => semVal g 0) := by
  unfold SparseCore.Cfg.ownSems0
  rw [SparseCore.bigSep_erase' ((mem_ownCells (g := cellA d L)).mpr ⟨rfl, by
      show (SemLoc.dma cc1_scoped0.sem : SemLoc sig).isScoped .scVector = true; decide⟩),
    SparseCore.bigSep_erase' (Finset.mem_erase.mpr ⟨by simp [cellA, cellB]; decide, (mem_ownCells (g := cellB d L)).mpr ⟨rfl, by
      show (SemLoc.dma cc1_scratch2.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d L)).mpr ⟨rfl, by show (SemLoc.dma cc1_scoped1.sem : SemLoc sig).isScoped .scVector = true; decide⟩⟩⟩)]

/-- The two scratch buffers are among the subcore's own. -/
theorem ownBufs_V :
    (ownBufs (vth d L) : sProp 𝕄)
      = iprop((∃ f, (vth d L).loc cc1_scratch0 ↦{fullShare} f) ∗ (∃ f, (vth d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

theorem trips_eq : k1_t1_loop.trips = 12 := by decide

/-- The whole task: from its shares and its block as found to the block gathered. -/
theorem tile_body (hF : (K (F := F)).Facts) (hJ : InRange J) (O : CellTallies nD τ sig (HIx 1)) (W : Waits sig (HIx 1)) (hO : ∀ g, O g none = 0) :
    iprop(levAts (K (F := F)).L (K (F := F)).lev ∗ emp ∗ goRes X J Z d (L 0) (L 1)
        ∗ scopedBufs (vth d L) ∗ scopedSems0 (vth d L) ∗ owes (vth d L) O W)
      ⊢ wp frame (wpE (defs₀ (F := F)) 𝒱₀ (vth d L) none) Set.univ
          (cc1_gather_kernel L xV (Memref.isWhole_whole _) iV (Memref.isWhole_whole _) oV (Memref.isWhole_whole _)
            sV (Memref.isWhole_whole _) rV (Memref.isWhole_whole _) cc1_scratch2 cc1_scoped0 cc1_scoped1)
          fun _ => iprop(tdRes X J d (L 0) (L 1)
            ∗ scopedBufs (vth d L) ∗ scopedSems0 (vth d L)
            ∗ ∃ W', ⌜∀ p ∈ W', p ∈ W ∨ p.2 = none⌝ ∗ owes (vth d L) O W') := by
  simp only [cc1_gather_kernel_eq_skeleton]; unfold cc1_gather_kernel_skel
  rw [(K (F := F)).scopedBufs_V hF d (cV L) (jV L), SparseCore.Cfg.scopedSems0_V (Val := Elt F) d (cV L) (jV L), ownSems0_V, ownBufs_V]
  unfold goRes tdRes
  iintro ⟨#Hlv, -, ⟨Hx, Hi, Ho⟩, ⟨Hs, Hr, Hbufs⟩, ⟨HsemA, HsemB, HsemC, Hsems⟩, HO⟩
  ihave Ho2 := (Entails.of_eq (pointsTo_congr (q := fullShare) (ℓ := oLoc d) (I := blockSet (bL L))
    (f := Z d) (g := mid X J Z d (bL L) 0) fun i hi => (if_neg (by have := (mem_blockSet.mp hi).1; omega)).symm)) $$ Ho
  iapply (Scf.wp_for_bind frame (wpE (defs₀ (F := F)) 𝒱₀ (vth d L) none) Set.univ _ _ _ k1_t1_ok ⟨⟩ _
    (fun k _ => tripRes X J Z d L O W k) (fun k acc => trip X J Z d L hJ O W hO k acc)) $$ [Hx Hi Ho2 Hs Hr HsemA HsemB HsemC HO]
  · unfold tripRes
    isplitr; · iexact Hlv
    isplitl [Hx]; · iexact Hx
    isplitl [Hi]; · iexact Hi
    isplitl [Ho2]; · iexact Ho2
    isplitl [Hs]; · iexact Hs
    isplitl [Hr]; · iexact Hr
    isplitl [HsemA]; · iexact HsemA
    isplitl [HsemB]; · iexact HsemB
    isplitl [HsemC]; · iexact HsemC
    iexists W; isplitr; · ipureintro; exact fun p hp => .inl hp
    iexact HO
  unfold tripRes
  iintro %acc ⟨-, Hx, Hi, Ho, Hs, Hr, HsemA, HsemB, HsemC, HO⟩
  ihave Ho2 := (Entails.of_eq (pointsTo_congr (q := fullShare) (ℓ := oLoc d) (I := blockSet (bL L))
    (f := mid X J Z d (bL L) k1_t1_loop.trips) (g := gat X J d) fun i hi => if_pos (by have := (mem_blockSet.mp hi).2; rw [trips_eq]; omega))) $$ Ho
  sl_step
  isplitl [Hx Hi Ho2]
  · isplitl [Hx]; · iexact Hx
    isplitl [Hi]; · iexact Hi
    iexact Ho2
  isplitl [Hs Hr Hbufs]
  · isplitl [Hs]; · iexact Hs
    isplitl [Hr]; · iexact Hr
    iexact Hbufs
  isplitl [HsemA HsemB HsemC Hsems]
  · isplitl [HsemA]; · iexact HsemA
    isplitl [HsemB]; · iexact HsemB
    isplitl [HsemC]; · iexact HsemC
    iexact Hsems
  iexact HO

end Trip

/-- The grid point of subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_kernel (coordsV c s)
          xV (Memref.isWhole_whole _) iV (Memref.isWhole_whole _) oV (Memref.isWhole_whole _)
          sV (Memref.isWhole_whole _) rV (Memref.isWhole_whole _) cc1_scratch2 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The launch's obligation for the tasks: each meets its payload. -/
theorem tileObl (hF : (K (F := F)).Facts) (hJ : InRange J) : (K (F := F)).TileObl (D (F := F)) 𝒱 (P X J Z) v₀ 0 := by
  intro d c i O W hO _ _
  simp only [show (P X J Z).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X J Z d (coordsV ⟨_, hci.1⟩ ⟨_, hci.2⟩) hF hJ O W hO).trans (wp_mono frame _ _ fun _ => obl_post)

end Cert.Proof

end
-- ==== Proof.Top3Call.lean ====
/-
  The first TensorCore call: for each target point the three nearest rows and their weights. Its body at every grid point.
-/
module

public import proofs.«01_k».proof.Proof.Common

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation)

variable {F : FTy → Type} [FloatOps F]

local notation "𝕄" => MT nD τ sig (HIx 1) (Elt F) ℕ UU ℕ

-- the TensorCore's buffers as the call finds them, what the core still owes the SparseCores meanwhile, and a bound on the
-- waits it has recorded
variable (V : (c : Dev nD) → (b : Ref sig .tc) → Buf (Elt F) ((c : Thread nD τ).loc b))
variable (O : Dev nD → CellTallies nD τ sig (HIx 1)) (B : Dev nD → Set (SemLoc sig × HIx 1))

/-- Window `w`'s block at grid point `t`, read off its array. -/
def top3Blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
abbrev rVox : Rect S8192x4 := Rect.unit (s := S8192x4) ![0, 0] S8192x4.size inb_S8192x4_S8192x4_0_0
abbrev rTgt : Rect S4x1024 := Rect.unit (s := S4x1024) ![0, 0] S4x1024.size inb_S4x1024_S4x1024_0_0
abbrev rTn : Rect S1x1024 := Rect.unit (s := S1x1024) ![0, 0] S1x1024.size inb_S1x1024_S1x1024_0_0
abbrev rVn : Rect S8192x1 := Rect.unit (s := S8192x1) ![0, 0] S8192x1.size inb_S8192x1_S8192x1_0_0

/-! ## What the body computes from its four blocks -/

/-- The clamped squared distances, chunk by chunk. -/
def d3Of (x0 : Vec F S8192x4 .f32) (x1 : Vec F S4x1024 .f32) (x2 : Vec F S1x1024 .f32) (x3 : Vec F S8192x1 .f32) : FVec F S64x128x1024 .f32 := k0_pay3 (View.ld x0 rVox) (View.ld x1 rTgt) (View.ld x2 rTn) (View.ld x3 rVn)
/-- Each chunk's minimum. -/
def cmOf (x0 : Vec F S8192x4 .f32) (x1 : Vec F S4x1024 .f32) (x2 : Vec F S1x1024 .f32) (x3 : Vec F S8192x1 .f32) : FVec F S64x1024 .f32 := k0_pay4 (View.ld x0 rVox) (View.ld x1 rTgt) (View.ld x2 rTn) (View.ld x3 rVn)
/-- The chunk numbers. -/
def chIota : IVec S64x1024 32 := iota .tc S64x1024 32 [0] iota_S64x1024_d0_w32
/-- The first chunk. -/
def c1Of (x0 : Vec F S8192x4 .f32) (x1 : Vec F S4x1024 .f32) (x2 : Vec F S1x1024 .f32) (x3 : Vec F S8192x1 .f32) : IVec S1x1024 32 := k0_pay5 (View.ld x0 rVox) (View.ld x1 rTgt) (View.ld x2 rTn) (View.ld x3 rVn)
/-- The chunk numbers at the second minimum, elsewhere 64. -/
def m2Of (x0 : Vec F S8192x4 .f32) (x1 : Vec F S4x1024 .f32) (x2 : Vec F S1x1024 .f32) (x3 : Vec F S8192x1 .f32) : IVec S64x1024 32 := k0_pay6 (View.ld x0 rVox) (View.ld x1 rTgt) (View.ld x2 rTn) (View.ld x3 rVn)
/-- The second chunk. -/
def c2Of (x0 : Vec F S8192x4 .f32) (x1 : Vec F S4x1024 .f32) (x2 : Vec F S1x1024 .f32) (x3 : Vec F S8192x1 .f32) : IVec S1x1024 32 := k0_pay7 (m2Of x0 x1 x2 x3)
/-- The third chunk. -/
def c3Of (x0 : Vec F S8192x4 .f32) (x1 : Vec F S4x1024 .f32) (x2 : Vec F S1x1024 .f32) (x3 : Vec F S8192x1 .f32) : IVec S1x1024 32 :=
  k0_pay8 (cmOf x0 x1 x2 x3) chIota (c1Of x0 x1 x2 x3) (m2Of x0 x1 x2 x3)
/-- The three chosen chunks' distances, one below the other. -/
def candOf (x0 : Vec F S8192x4 .f32) (x1 : Vec F S4x1024 .f32) (x2 : Vec F S1x1024 .f32) (x3 : Vec F S8192x1 .f32) : FVec F S384x1024 .f32 :=
  k0_pay9 (d3Of x0 x1 x2 x3) (cmOf x0 x1 x2 x3) chIota (c1Of x0 x1 x2 x3) (m2Of x0 x1 x2 x3)

/-- The index block: three row numbers and a row of zeros. -/
def top3Out4 (x0 : Vec F S8192x4 .f32) (x1 : Vec F S4x1024 .f32) (x2 : Vec F S1x1024 .f32) (x3 : Vec F S8192x1 .f32) : Vec F S4x1024 .i32 :=
  View.canon [⟨rTgt, k0_pay1 (k0_pay10 (c1Of x0 x1 x2 x3) (c2Of x0 x1 x2 x3) (c3Of x0 x1 x2 x3))
    (k0_pay12 (c1Of x0 x1 x2 x3) (c2Of x0 x1 x2 x3) (c3Of x0 x1 x2 x3) (candOf x0 x1 x2 x3))
    (k0_pay14 (c1Of x0 x1 x2 x3) (c2Of x0 x1 x2 x3) (c3Of x0 x1 x2 x3) (candOf x0 x1 x2 x3))
    (k0_pay16 (c1Of x0 x1 x2 x3) (c2Of x0 x1 x2 x3) (c3Of x0 x1 x2 x3) (candOf x0 x1 x2 x3))⟩]
/-- The weight block: three weights and a row of zeros. -/
def top3Out5 (x0 : Vec F S8192x4 .f32) (x1 : Vec F S4x1024 .f32) (x2 : Vec F S1x1024 .f32) (x3 : Vec F S8192x1 .f32) : Vec F S4x1024 .f32 :=
  View.canon [⟨rTgt, k0_pay2 (k0_pay11 (candOf x0 x1 x2 x3))
    (k0_pay13 (c1Of x0 x1 x2 x3) (c2Of x0 x1 x2 x3) (c3Of x0 x1 x2 x3) (candOf x0 x1 x2 x3))
    (k0_pay15 (c1Of x0 x1 x2 x3) (c2Of x0 x1 x2 x3) (c3Of x0 x1 x2 x3) (candOf x0 x1 x2 x3))⟩]

theorem top3Cover4 (p : Vec F S4x1024 .i32) (y : S4x1024.Idx) :
    ∃ pc ∈ ([⟨rTgt, p⟩] : List (View.Piece (Elt F) S4x1024 .i32)), y ∈ pc.1.set :=
  View.cover_of_tiled [⟨rTgt, p⟩] S4x1024.size (by rfl) y
theorem top3Cover5 (p : Vec F S4x1024 .f32) (y : S4x1024.Idx) :
    ∃ pc ∈ ([⟨rTgt, p⟩] : List (View.Piece (Elt F) S4x1024 .f32)), y ∈ pc.1.set :=
  View.cover_of_tiled [⟨rTgt, p⟩] S4x1024.size (by rfl) y

/-! ## The body's contract -/

set_option maxHeartbeats 1000000 in
/-- The body on whole buffers: from the inputs' contents to the same inputs and each output at its function of them. -/
theorem top3_kernel (c : Dev nD) (E : Set ℕ) (i : grid0.Coords) (arg1 : Memref sig .tc .vmem S8192x4 .f32) (harg1 : arg1.IsWhole) (arg2 : Memref sig .tc .vmem S4x1024 .f32) (harg2 : arg2.IsWhole) (arg3 : Memref sig .tc .vmem S1x1024 .f32) (harg3 : arg3.IsWhole) (arg4 : Memref sig .tc .vmem S8192x1 .f32) (harg4 : arg4.IsWhole) (arg5 : Memref sig .tc .vmem S4x1024 .i32) (harg5 : arg5.IsWhole) (arg6 : Memref sig .tc .vmem S4x1024 .f32) (harg6 : arg6.IsWhole)
    (x0 : Vec F S8192x4 .f32) (x1 : Vec F S4x1024 .f32) (x2 : Vec F S1x1024 .f32) (x3 : Vec F S8192x1 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (top3Out4 x0 x1 x2 x3) ∗ owns (c : Thread nD τ) arg6 fullShare (top3Out5 x0 x1 x2 x3)) -∗ Q ⟨⟩))
      ⊢ wp frame (wpE (defs₀ (F := F)) Variants.none c none) E (cc0__top3_body i arg1 harg1 arg2 harg2 arg3 harg3 arg4 harg4 arg5 harg5 arg6 harg6) Q := by
  simp only [cc0__top3_body_eq_skeleton]; unfold cc0__top3_body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact (View.read_writes_eq_canon _ _ _ (top3Cover4 _)).trans rfl
  iexists _; isplitr
  swap; · iexact H5
  ipureintro
  exact (View.read_writes_eq_canon _ _ _ (top3Cover5 _)).trans rfl

/-- The pipeline's data: the arrays as found; after the body each input's buffer at its block and each output's at its
    function of the blocks; the core's debts constant. -/
def top3Dat (c : Dev nD) : Dat τ (Elt F) (HIx 1) ℕ UU ℕ cfg0 c where
  A w := V c (Pipeline.arrRef spec0 w)
  after w t := match w with
    | ⟨0, _⟩ => top3Blk V c 0 t
    | ⟨1, _⟩ => top3Blk V c 1 t
    | ⟨2, _⟩ => top3Blk V c 2 t
    | ⟨3, _⟩ => top3Blk V c 3 t
    | ⟨4, _⟩ => top3Out4 (top3Blk V c 0 t) (top3Blk V c 1 t) (top3Blk V c 2 t) (top3Blk V c 3 t)
    | ⟨5, _⟩ => top3Out5 (top3Blk V c 0 t) (top3Blk V c 1 t) (top3Blk V c 2 t) (top3Blk V c 3 t)
  Φ _ := Pipeline.scopedRest (Ix := HIx 1) (Name := ℕ) (U := UU) (Lvl := ℕ) (Val := Elt F) spec0 c
  q _ := fullShare
  owed _ := O c
  recorded _ := B c

theorem top3_A (c : Dev nD) (w : Fin cfg0.W) : (top3Dat V O B c).A w = V c (Pipeline.arrRef spec0 w) := by
  dsimp only [top3Dat]
theorem top3_after0 (c : Dev nD) (t : Fin cfg0.N) : (top3Dat V O B c).after 0 t = top3Blk V c 0 t := by dsimp only [top3Dat]
theorem top3_after1 (c : Dev nD) (t : Fin cfg0.N) : (top3Dat V O B c).after 1 t = top3Blk V c 1 t := by dsimp only [top3Dat]
theorem top3_after2 (c : Dev nD) (t : Fin cfg0.N) : (top3Dat V O B c).after 2 t = top3Blk V c 2 t := by dsimp only [top3Dat]
theorem top3_after3 (c : Dev nD) (t : Fin cfg0.N) : (top3Dat V O B c).after 3 t = top3Blk V c 3 t := by dsimp only [top3Dat]
theorem top3_after4 (c : Dev nD) (t : Fin cfg0.N) : (top3Dat V O B c).after 4 t = top3Out4 (top3Blk V c 0 t) (top3Blk V c 1 t) (top3Blk V c 2 t) (top3Blk V c 3 t) := by dsimp only [top3Dat]
theorem top3_after5 (c : Dev nD) (t : Fin cfg0.N) : (top3Dat V O B c).after 5 t = top3Out5 (top3Blk V c 0 t) (top3Blk V c 1 t) (top3Blk V c 2 t) (top3Blk V c 3 t) := by dsimp only [top3Dat]

/-- Input 0's buffer holds its block when the body runs. -/
theorem top3_before0 (c : Dev nD) (t : Fin cfg0.N) (d) : (top3Dat V O B c).before 0 t d = top3Blk V c 0 t :=
  ((top3Dat V O B c).before_in_eq_fetched 0 rfl (fun _ => rfl) (fun _ _ _ => rfl)
    (fun t => by rw [top3_after0]; unfold Dat.blockOf top3Blk; rw [top3_A]) t d).trans
    (by unfold Dat.fetched Dat.blockOf top3Blk; rw [top3_A]; try rfl)
/-- Input 1's buffer holds its block when the body runs. -/
theorem top3_before1 (c : Dev nD) (t : Fin cfg0.N) (d) : (top3Dat V O B c).before 1 t d = top3Blk V c 1 t :=
  ((top3Dat V O B c).before_in_eq_fetched 1 rfl (fun _ => rfl) (fun _ _ _ => rfl)
    (fun t => by rw [top3_after1]; unfold Dat.blockOf top3Blk; rw [top3_A]) t d).trans
    (by unfold Dat.fetched Dat.blockOf top3Blk; rw [top3_A]; try rfl)
/-- Input 2's buffer holds its block when the body runs. -/
theorem top3_before2 (c : Dev nD) (t : Fin cfg0.N) (d) : (top3Dat V O B c).before 2 t d = top3Blk V c 2 t :=
  ((top3Dat V O B c).before_in_eq_fetched 2 rfl (fun _ => rfl) (fun _ _ _ => rfl)
    (fun t => by rw [top3_after2]; unfold Dat.blockOf top3Blk; rw [top3_A]) t d).trans
    (by unfold Dat.fetched Dat.blockOf top3Blk; rw [top3_A]; try rfl)
/-- Input 3's buffer holds its block when the body runs. -/
theorem top3_before3 (c : Dev nD) (t : Fin cfg0.N) (d) : (top3Dat V O B c).before 3 t d = top3Blk V c 3 t :=
  ((top3Dat V O B c).before_in_eq_fetched 3 rfl (fun _ => rfl) (fun _ _ _ => rfl)
    (fun t => by rw [top3_after3]; unfold Dat.blockOf top3Blk; rw [top3_A]) t d).trans
    (by unfold Dat.fetched Dat.blockOf top3Blk; rw [top3_A]; try rfl)

/-- What the body is handed at a point, -/
def top3Pre (c : Dev nD) (t : Fin cfg0.N) : sProp 𝕄 :=
  iprop((top3Dat V O B c).Φ t.castSucc ∗ (top3Dat V O B c).owesAt none t.castSucc
    ∗ (∃ d, owns (c : Thread nD τ) (st0_0 t) fullShare ((top3Dat V O B c).before 0 t d))
    ∗ (∃ d, owns (c : Thread nD τ) (st0_1 t) fullShare ((top3Dat V O B c).before 1 t d))
    ∗ (∃ d, owns (c : Thread nD τ) (st0_2 t) fullShare ((top3Dat V O B c).before 2 t d))
    ∗ (∃ d, owns (c : Thread nD τ) (st0_3 t) fullShare ((top3Dat V O B c).before 3 t d))
    ∗ (∃ d, owns (c : Thread nD τ) (st0_4 t) fullShare ((top3Dat V O B c).before 4 t d))
    ∗ (∃ d, owns (c : Thread nD τ) (st0_5 t) fullShare ((top3Dat V O B c).before 5 t d)))

/-- and what it gives back. -/
def top3Post (c : Dev nD) (t : Fin cfg0.N) : sProp 𝕄 :=
  iprop((top3Dat V O B c).Φ t.succ ∗ (top3Dat V O B c).owesAt none t.succ
    ∗ owns (c : Thread nD τ) (st0_0 t) fullShare ((top3Dat V O B c).after 0 t)
    ∗ owns (c : Thread nD τ) (st0_1 t) fullShare ((top3Dat V O B c).after 1 t)
    ∗ owns (c : Thread nD τ) (st0_2 t) fullShare ((top3Dat V O B c).after 2 t)
    ∗ owns (c : Thread nD τ) (st0_3 t) fullShare ((top3Dat V O B c).after 3 t)
    ∗ owns (c : Thread nD τ) (st0_4 t) fullShare ((top3Dat V O B c).after 4 t)
    ∗ owns (c : Thread nD τ) (st0_5 t) fullShare ((top3Dat V O B c).after 5 t))

/-- The body at a point meets that contract. -/
theorem top3_body (c : Dev nD) (t : Fin cfg0.N) :
    top3Pre V O B c t ⊢ wp frame (wpE (defs₀ (F := F)) Variants.none c none) Set.univ (bodyAt0 t) (fun _ => top3Post V O B c t) := by
  unfold top3Pre top3Post bodyAt0
  simp only [top3_before0, top3_before1, top3_before2, top3_before3]
  rw [show (top3Dat V O B c).Φ t.succ = (top3Dat V O B c).Φ t.castSucc from rfl,
    show (top3Dat V O B c).owesAt none t.succ = (top3Dat V O B c).owesAt none t.castSucc from rfl,
    top3_after0, top3_after1, top3_after2, top3_after3, top3_after4, top3_after5]
  iintro ⟨HΦ, Ho, ⟨%d0, H0⟩, ⟨%d1, H1⟩, ⟨%d2, H2⟩, ⟨%d3, H3⟩, ⟨%d4, H4⟩, ⟨%d5, H5⟩⟩
  iapply (top3_kernel c Set.univ (grid0.coords t) _ _ _ _ _ _ _ _ _ _ _ _ (top3Blk V c 0 t) (top3Blk V c 1 t) (top3Blk V c 2 t) (top3Blk V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem top3_row (t : Fin cfg0.N) :
    defs₀ (F := F) .tc cfg0.body (cfg0.bodyArgs t (cfg0.slots t)) = bodyAt0 t := rfl

/-- The pipeline's obligation for its body, at every point. -/
theorem top3_obligation (c : Dev nD) : BodyObligation (top3Dat (F := F) V O B c) (defs₀ (F := F)) Variants.none none Set.univ := fun t => by
  rw [bigSep_W0, bigSep_W0, top3_row]
  exact triple_restated (top3_body V O B c t) rfl .rfl fun _ => .rfl

end Cert.Proof

end
-- ==== Proof.WsumCall.lean ====
/-
  The second TensorCore call: the weighted sum of the three gathered rows. Its body at every grid point.
-/
module

public import proofs.«01_k».proof.Proof.Common

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation)

variable {F : FTy → Type} [FloatOps F]

local notation "𝕄" => MT nD τ sig (HIx 1) (Elt F) ℕ UU ℕ

-- the TensorCore's buffers as the call finds them, what the core still owes the SparseCores meanwhile, and a bound on the
-- waits it has recorded
variable (V : (c : Dev nD) → (b : Ref sig .tc) → Buf (Elt F) ((c : Thread nD τ).loc b))
variable (O : Dev nD → CellTallies nD τ sig (HIx 1)) (B : Dev nD → Set (SemLoc sig × HIx 1))

/-- Window `w`'s block at grid point `t`, read off its array. -/
def wsumBlk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
abbrev rRows : Rect S3x1024x128 := Rect.unit (s := S3x1024x128) ![0, 0, 0] S3x1024x128.size inb_S3x1024x128_S3x1024x128_0_0_0
abbrev rWts : Rect S1024x4 := Rect.unit (s := S1024x4) ![0, 0] S1024x4.size inb_S1024x4_S1024x4_0_0
abbrev rSum : Rect S1024x128 := Rect.unit (s := S1024x128) ![0, 0] S1024x128.size inb_S1024x128_S1024x128_0_0

/-- The weighted sum of the three rows. -/
def wsumOut2 (x0 : Vec F S3x1024x128 .f32) (x1 : Vec F S1024x4 .f32) : Vec F S1024x128 .f32 :=
  View.canon [⟨rSum, k2_pay1 (View.ld x0 rRows) (View.ld x1 rWts)⟩]

theorem wsumCover2 (p : Vec F S1024x128 .f32) (y : S1024x128.Idx) :
    ∃ pc ∈ ([⟨rSum, p⟩] : List (View.Piece (Elt F) S1024x128 .f32)), y ∈ pc.1.set :=
  View.cover_of_tiled [⟨rSum, p⟩] S1024x128.size (by rfl) y

set_option maxHeartbeats 1000000 in
/-- The body on whole buffers: from the inputs' contents to the same inputs and each output at its function of them. -/
theorem wsum_kernel (c : Dev nD) (E : Set ℕ) (i : grid2.Coords) (arg1 : Memref sig .tc .vmem S3x1024x128 .f32) (harg1 : arg1.IsWhole) (arg2 : Memref sig .tc .vmem S1024x4 .f32) (harg2 : arg2.IsWhole) (arg3 : Memref sig .tc .vmem S1024x128 .f32) (harg3 : arg3.IsWhole)
    (x0 : Vec F S3x1024x128 .f32) (x1 : Vec F S1024x4 .f32) (Q : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (wsumOut2 x0 x1)) -∗ Q ⟨⟩))
      ⊢ wp frame (wpE (defs₀ (F := F)) Variants.none c none) E (cc2__wsum_body i arg1 harg1 arg2 harg2 arg3 harg3) Q := by
  simp only [cc2__wsum_body_eq_skeleton]; unfold cc2__wsum_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ (wsumCover2 _)).trans rfl

/-- The pipeline's data: the arrays as found; after the body each input's buffer at its block and each output's at its
    function of the blocks; the core's debts constant. -/
def wsumDat (c : Dev nD) : Dat τ (Elt F) (HIx 1) ℕ UU ℕ cfg2 c where
  A w := V c (Pipeline.arrRef spec2 w)
  after w t := match w with
    | ⟨0, _⟩ => wsumBlk V c 0 t
    | ⟨1, _⟩ => wsumBlk V c 1 t
    | ⟨2, _⟩ => wsumOut2 (wsumBlk V c 0 t) (wsumBlk V c 1 t)
  Φ _ := Pipeline.scopedRest (Ix := HIx 1) (Name := ℕ) (U := UU) (Lvl := ℕ) (Val := Elt F) spec2 c
  q _ := fullShare
  owed _ := O c
  recorded _ := B c

theorem wsum_A (c : Dev nD) (w : Fin cfg2.W) : (wsumDat V O B c).A w = V c (Pipeline.arrRef spec2 w) := by
  dsimp only [wsumDat]
theorem wsum_after0 (c : Dev nD) (t : Fin cfg2.N) : (wsumDat V O B c).after 0 t = wsumBlk V c 0 t := by dsimp only [wsumDat]
theorem wsum_after1 (c : Dev nD) (t : Fin cfg2.N) : (wsumDat V O B c).after 1 t = wsumBlk V c 1 t := by dsimp only [wsumDat]
theorem wsum_after2 (c : Dev nD) (t : Fin cfg2.N) : (wsumDat V O B c).after 2 t = wsumOut2 (wsumBlk V c 0 t) (wsumBlk V c 1 t) := by dsimp only [wsumDat]

/-- Input 0's buffer holds its block when the body runs. -/
theorem wsum_before0 (c : Dev nD) (t : Fin cfg2.N) (d) : (wsumDat V O B c).before 0 t d = wsumBlk V c 0 t :=
  ((wsumDat V O B c).before_in_eq_fetched 0 rfl (fun _ => rfl) (fun _ _ _ => rfl)
    (fun t => by rw [wsum_after0]; unfold Dat.blockOf wsumBlk; rw [wsum_A]) t d).trans
    (by unfold Dat.fetched Dat.blockOf wsumBlk; rw [wsum_A]; try rfl)
/-- Input 1's buffer holds its block when the body runs. -/
theorem wsum_before1 (c : Dev nD) (t : Fin cfg2.N) (d) : (wsumDat V O B c).before 1 t d = wsumBlk V c 1 t :=
  ((wsumDat V O B c).before_in_eq_fetched 1 rfl (fun _ => rfl) (fun _ _ _ => rfl)
    (fun t => by rw [wsum_after1]; unfold Dat.blockOf wsumBlk; rw [wsum_A]) t d).trans
    (by unfold Dat.fetched Dat.blockOf wsumBlk; rw [wsum_A]; try rfl)

/-- What the body is handed at a point, -/
def wsumPre (c : Dev nD) (t : Fin cfg2.N) : sProp 𝕄 :=
  iprop((wsumDat V O B c).Φ t.castSucc ∗ (wsumDat V O B c).owesAt none t.castSucc
    ∗ (∃ d, owns (c : Thread nD τ) (st2_0 t) fullShare ((wsumDat V O B c).before 0 t d))
    ∗ (∃ d, owns (c : Thread nD τ) (st2_1 t) fullShare ((wsumDat V O B c).before 1 t d))
    ∗ (∃ d, owns (c : Thread nD τ) (st2_2 t) fullShare ((wsumDat V O B c).before 2 t d)))

/-- and what it gives back. -/
def wsumPost (c : Dev nD) (t : Fin cfg2.N) : sProp 𝕄 :=
  iprop((wsumDat V O B c).Φ t.succ ∗ (wsumDat V O B c).owesAt none t.succ
    ∗ owns (c : Thread nD τ) (st2_0 t) fullShare ((wsumDat V O B c).after 0 t)
    ∗ owns (c : Thread nD τ) (st2_1 t) fullShare ((wsumDat V O B c).after 1 t)
    ∗ owns (c : Thread nD τ) (st2_2 t) fullShare ((wsumDat V O B c).after 2 t))

/-- The body at a point meets that contract. -/
theorem wsum_body (c : Dev nD) (t : Fin cfg2.N) :
    wsumPre V O B c t ⊢ wp frame (wpE (defs₀ (F := F)) Variants.none c none) Set.univ (bodyAt2 t) (fun _ => wsumPost V O B c t) := by
  unfold wsumPre wsumPost bodyAt2
  simp only [wsum_before0, wsum_before1]
  rw [show (wsumDat V O B c).Φ t.succ = (wsumDat V O B c).Φ t.castSucc from rfl,
    show (wsumDat V O B c).owesAt none t.succ = (wsumDat V O B c).owesAt none t.castSucc from rfl,
    wsum_after0, wsum_after1, wsum_after2]
  iintro ⟨HΦ, Ho, ⟨%d0, H0⟩, ⟨%d1, H1⟩, ⟨%d2, H2⟩⟩
  iapply (wsum_kernel c Set.univ (grid2.coords t) _ _ _ _ _ _ (wsumBlk V c 0 t) (wsumBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem wsum_row (t : Fin cfg2.N) :
    defs₀ (F := F) .tc cfg2.body (cfg2.bodyArgs t (cfg2.slots t)) = bodyAt2 t := rfl

/-- The pipeline's obligation for its body, at every point. -/
theorem wsum_obligation (c : Dev nD) : BodyObligation (wsumDat (F := F) V O B c) (defs₀ (F := F)) Variants.none none Set.univ := fun t => by
  rw [bigSep_W2, bigSep_W2, wsum_row]
  exact triple_restated (wsum_body V O B c t) rfl .rfl fun _ => .rfl

end Cert.Proof

end
-- ==== Proof.Host.lean ====
/-
  The host operations of the program and the buffers' contents from the launch to the return.
-/
module

public import proofs.«01_k».proof.Proof.Tile
public import proofs.«01_k».proof.Proof.Top3Call
public import proofs.«01_k».proof.Proof.WsumCall

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation)

variable {F : FTy → Type} [FloatOps F]

local notation "𝕄" => MT nD τ sig (HIx 1) (Elt F) ℕ UU ℕ

/-- The voxels' batch column and their centres, side by side. -/
def joinVox (a : (⟨S8192x1, .f32⟩ : BufTy).Contents (Elt F)) (b : (⟨S8192x3, .f32⟩ : BufTy).Contents (Elt F)) :
    (⟨S8192x4, .f32⟩ : BufTy).Contents (Elt F) :=
  concatenate S8192x4 1 [⟨S8192x1, a⟩, ⟨S8192x3, b⟩] concatenates_S8192x1_S8192x3_S8192x4_d1
/-- The points' batch column and their positions, side by side. -/
def joinPts (a : (⟨S16384x1, .f32⟩ : BufTy).Contents (Elt F)) (b : (⟨S16384x3, .f32⟩ : BufTy).Contents (Elt F)) :
    (⟨S16384x4, .f32⟩ : BufTy).Contents (Elt F) :=
  concatenate S16384x4 1 [⟨S16384x1, a⟩, ⟨S16384x3, b⟩] concatenates_S16384x1_S16384x3_S16384x4_d1

/-- The host operations before the first call: scaled voxel centres, the points with their batch numbers, their squared norms. -/
abbrev opsPrep : List (HloOp τ sig (Elt F)) :=
  [ StableHlo.nullary main_cst (constant S_ .f32 0x3ECCCCCD#32),
    StableHlo.unary main_cst main_v0 (broadcastInDim S3 ![] bcast_S_S3 : (⟨S_, .f32⟩ : BufTy).Contents (Elt F) → (⟨S3, .f32⟩ : BufTy).Contents (Elt F)),
    StableHlo.nullary main_cst_0 (constant S_ .f32 0x424CCCCD#32),
    StableHlo.unary main_cst_0 main_v1 (broadcastInDim S3 ![] bcast_S_S3 : (⟨S_, .f32⟩ : BufTy).Contents (Elt F) → (⟨S3, .f32⟩ : BufTy).Contents (Elt F)),
    StableHlo.unary main_arg1 main_v2 (sitofp .f32 : (⟨S8192x4, .i32⟩ : BufTy).Contents (Elt F) → (⟨S8192x4, .f32⟩ : BufTy).Contents (Elt F)),
    StableHlo.unary main_v2 main_v3 ((extractStridedSlice S8192x3 ![0, 1] · slices_S8192x4_S8192x3_0_1) : (⟨S8192x4, .f32⟩ : BufTy).Contents (Elt F) → (⟨S8192x3, .f32⟩ : BufTy).Contents (Elt F)),
    StableHlo.unary main_v0 main_v4 (broadcastInDim S1x3 ![1] bcast_S3_S1x3_1 : (⟨S3, .f32⟩ : BufTy).Contents (Elt F) → (⟨S1x3, .f32⟩ : BufTy).Contents (Elt F)),
    StableHlo.unary main_v4 main_v5 (broadcastInDim S8192x3 ![0, 1] bcast_S1x3_S8192x3_0_1 : (⟨S1x3, .f32⟩ : BufTy).Contents (Elt F) → (⟨S8192x3, .f32⟩ : BufTy).Contents (Elt F)),
    StableHlo.binary main_v3 main_v5 main_v6 (mulf : (⟨S8192x3, .f32⟩ : BufTy).Contents (Elt F) → (⟨S8192x3, .f32⟩ : BufTy).Contents (Elt F) → (⟨S8192x3, .f32⟩ : BufTy).Contents (Elt F)),
    StableHlo.nullary main_cst_1 (constant S_ .f32 0x3F000000#32),
    StableHlo.unary main_cst_1 main_v7 (broadcastInDim S3 ![] bcast_S_S3 : (⟨S_, .f32⟩ : BufTy).Contents (Elt F) → (⟨S3, .f32⟩ : BufTy).Contents (Elt F)),
    StableHlo.binary main_v7 main_v1 main_v8 (mulf : (⟨S3, .f32⟩ : BufTy).Contents (Elt F) → (⟨S3, .f32⟩ : BufTy).Contents (Elt F) → (⟨S3, .f32⟩ : BufTy).Contents (Elt F)),
    StableHlo.unary main_v8 main_v9 (broadcastInDim S1x3 ![1] bcast_S3_S1x3_1 : (⟨S3, .f32⟩ : BufTy).Contents (Elt F) → (⟨S1x3, .f32⟩ : BufTy).Contents (Elt F)),
    StableHlo.unary main_v9 main_v10 (broadcastInDim S8192x3 ![0, 1] bcast_S1x3_S8192x3_0_1 : (⟨S1x3, .f32⟩ : BufTy).Contents (Elt F) → (⟨S8192x3, .f32⟩ : BufTy).Contents (Elt F)),
    StableHlo.binary main_v6 main_v10 main_v11 (subf : (⟨S8192x3, .f32⟩ : BufTy).Contents (Elt F) → (⟨S8192x3, .f32⟩ : BufTy).Contents (Elt F) → (⟨S8192x3, .f32⟩ : BufTy).Contents (Elt F)),
    StableHlo.nullary main_cst_2 (constant S_ .f32 0x3F000000#32),
    StableHlo.unary main_cst_2 main_v12 (broadcastInDim S3 ![] bcast_S_S3 : (⟨S_, .f32⟩ : BufTy).Contents (Elt F) → (⟨S3, .f32⟩ : BufTy).Contents (Elt F)),
    StableHlo.binary main_v12 main_v0 main_v13 (mulf : (⟨S3, .f32⟩ : BufTy).Contents (Elt F) → (⟨S3, .f32⟩ : BufTy).Contents (Elt F) → (⟨S3, .f32⟩ : BufTy).Contents (Elt F)),
    StableHlo.unary main_v13 main_v14 (broadcastInDim S1x3 ![1] bcast_S3_S1x3_1 : (⟨S3, .f32⟩ : BufTy).Contents (Elt F) → (⟨S1x3, .f32⟩ : BufTy).Contents (Elt F)),
    StableHlo.unary main_v14 main_v15 (broadcastInDim S8192x3 ![0, 1] bcast_S1x3_S8192x3_0_1 : (⟨S1x3, .f32⟩ : BufTy).Contents (Elt F) → (⟨S8192x3, .f32⟩ : BufTy).Contents (Elt F)),
    StableHlo.binary main_v11 main_v15 main_v16 (addf : (⟨S8192x3, .f32⟩ : BufTy).Contents (Elt F) → (⟨S8192x3, .f32⟩ : BufTy).Contents (Elt F) → (⟨S8192x3, .f32⟩ : BufTy).Contents (Elt F)),
    StableHlo.unary main_v2 main_v17 ((extractStridedSlice S8192x1 ![0, 0] · slices_S8192x4_S8192x1_0_0) : (⟨S8192x4, .f32⟩ : BufTy).Contents (Elt F) → (⟨S8192x1, .f32⟩ : BufTy).Contents (Elt F)),
    StableHlo.binary main_v17 main_v16 main_v18 (joinVox (F := F)),
    StableHlo.unary main_arg3 main_v19 (sitofp .f32 : (⟨S16384, .i32⟩ : BufTy).Contents (Elt F) → (⟨S16384, .f32⟩ : BufTy).Contents (Elt F)),
    StableHlo.unary main_v19 main_v20 (broadcastInDim S16384x1 ![0] bcast_S16384_S16384x1_0 : (⟨S16384, .f32⟩ : BufTy).Contents (Elt F) → (⟨S16384x1, .f32⟩ : BufTy).Contents (Elt F)),
    StableHlo.binary main_v20 main_arg2 main_v21 (joinPts (F := F)),
    StableHlo.binary main_v21 main_v21 main_v22 (mulf : (⟨S16384x4, .f32⟩ : BufTy).Contents (Elt F) → (⟨S16384x4, .f32⟩ : BufTy).Contents (Elt F) → (⟨S16384x4, .f32⟩ : BufTy).Contents (Elt F)),
    StableHlo.nullary main_cst_3 (constant S_ .f32 0x00000000#32),
    StableHlo.binary main_v22 main_cst_3 main_v23 ((fun x v => Host.reduceAdd x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v23 main_v24 (broadcastInDim S1x16384 ![1] bcast_S16384_S1x16384_1 : (⟨S16384, .f32⟩ : BufTy).Contents (Elt F) → (⟨S1x16384, .f32⟩ : BufTy).Contents (Elt F)),
    StableHlo.binary main_v18 main_v18 main_v25 (mulf : (⟨S8192x4, .f32⟩ : BufTy).Contents (Elt F) → (⟨S8192x4, .f32⟩ : BufTy).Contents (Elt F) → (⟨S8192x4, .f32⟩ : BufTy).Contents (Elt F)),
    StableHlo.nullary main_cst_4 (constant S_ .f32 0x00000000#32),
    StableHlo.binary main_v25 main_cst_4 main_v26 ((fun x v => Host.reduceAdd x v reducesTo_S8192x4_S8192_d1 h_S_) : (⟨S8192x4, .f32⟩ : BufTy).Contents (Elt F) → (⟨S_, .f32⟩ : BufTy).Contents (Elt F) → (⟨S8192, .f32⟩ : BufTy).Contents (Elt F)),
    StableHlo.unary main_v26 main_v27 (broadcastInDim S8192x1 ![0] bcast_S8192_S8192x1_0 : (⟨S8192, .f32⟩ : BufTy).Contents (Elt F) → (⟨S8192x1, .f32⟩ : BufTy).Contents (Elt F)),
    StableHlo.unary main_v21 main_v28 ((transpose S4x16384 [1, 0] · transposes_S16384x4_S4x16384_1_0) : (⟨S16384x4, .f32⟩ : BufTy).Contents (Elt F) → (⟨S4x16384, .f32⟩ : BufTy).Contents (Elt F)) ]
theorem opsPrep_sub : (opsPrep : List (HloOp τ sig (Elt F))).Forall fun op => op.bufs ⊆ StableHlo.tcRefs τ sig := by
  simp only [List.Forall]
  exact ⟨StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub ..⟩
theorem opsPrep_fresh : (opsPrep : List (HloOp τ sig (Elt F))).Forall fun op => op.fresh = ∅ := by
  simp only [List.Forall]; repeat' constructor
/-- What they write, in order. -/
abbrev opsPrep_W : List (Ref sig .tc) := [main_cst, main_v0, main_cst_0, main_v1, main_v2, main_v3, main_v4, main_v5, main_v6, main_cst_1, main_v7, main_v8, main_v9, main_v10, main_v11, main_cst_2, main_v12, main_v13, main_v14, main_v15, main_v16, main_v17, main_v18, main_v19, main_v20, main_v21, main_v22, main_cst_3, main_v23, main_v24, main_v25, main_cst_4, main_v26, main_v27, main_v28]
theorem opsPrep_writes : (opsPrep : List (HloOp τ sig (Elt F))).Forall fun op => op.writes ⊆ (opsPrep_W.map (Proc.devRef (τ := τ) .tc)).toFinset :=
  StableHlo.forall_writes_sub_of_map rfl

/-- The host operations that flatten the chosen row numbers for the SparseCore call. -/
abbrev opsFlat : List (HloOp τ sig (Elt F)) :=
  [ StableHlo.unary main_v29_0 main_v30 ((extractStridedSlice S3x16384 ![0, 0] · slices_S4x16384_S3x16384_0_0) : (⟨S4x16384, .i32⟩ : BufTy).Contents (Elt F) → (⟨S3x16384, .i32⟩ : BufTy).Contents (Elt F)),
    StableHlo.reshape main_v30 main_v31 (rfl : (.i32 : EltTy) = .i32) shapeCasts_S3x16384_S49152 ]
theorem opsFlat_sub : (opsFlat : List (HloOp τ sig (Elt F))).Forall fun op => op.bufs ⊆ StableHlo.tcRefs τ sig := by
  simp only [List.Forall]
  exact ⟨StableHlo.unary_bufs_sub .., StableHlo.reshape_bufs_sub ..⟩
theorem opsFlat_fresh : (opsFlat : List (HloOp τ sig (Elt F))).Forall fun op => op.fresh = ∅ := by
  simp only [List.Forall]; repeat' constructor
/-- What they write, in order. -/
abbrev opsFlat_W : List (Ref sig .tc) := [main_v30, main_v31]
theorem opsFlat_writes : (opsFlat : List (HloOp τ sig (Elt F))).Forall fun op => op.writes ⊆ (opsFlat_W.map (Proc.devRef (τ := τ) .tc)).toFinset :=
  StableHlo.forall_writes_sub_of_map rfl

/-- The host operations that lay the gathered rows and the weights out for the second TensorCore call. -/
abbrev opsBack : List (HloOp τ sig (Elt F)) :=
  [ StableHlo.reshape main_v32 main_v33 (rfl : (.f32 : EltTy) = .f32) shapeCasts_S49152x128_S3x16384x128,
    StableHlo.unary main_v29_1 main_v34 ((transpose S16384x4 [1, 0] · transposes_S4x16384_S16384x4_1_0) : (⟨S4x16384, .f32⟩ : BufTy).Contents (Elt F) → (⟨S16384x4, .f32⟩ : BufTy).Contents (Elt F)) ]
theorem opsBack_sub : (opsBack : List (HloOp τ sig (Elt F))).Forall fun op => op.bufs ⊆ StableHlo.tcRefs τ sig := by
  simp only [List.Forall]
  exact ⟨StableHlo.reshape_bufs_sub .., StableHlo.unary_bufs_sub ..⟩
theorem opsBack_fresh : (opsBack : List (HloOp τ sig (Elt F))).Forall fun op => op.fresh = ∅ := by
  simp only [List.Forall]; repeat' constructor
/-- What they write, in order. -/
abbrev opsBack_W : List (Ref sig .tc) := [main_v33, main_v34]
theorem opsBack_writes : (opsBack : List (HloOp τ sig (Elt F))).Forall fun op => op.writes ⊆ (opsBack_W.map (Proc.devRef (τ := τ) .tc)).toFinset :=
  StableHlo.forall_writes_sub_of_map rfl

/-- The program is its three stretches of host operations with its three calls between them. -/
theorem main_eq (d : Dev nD) : main (F := F) d
    = (StableHlo.seq opsPrep >>= fun _ => Prog.lift (.customCall (SparseCore.inner (Pipeline.entry 0)) ()) >>= fun _ =>
        StableHlo.seq opsFlat >>= fun _ => sc.run d 0 >>= fun _ => StableHlo.seq opsBack >>= fun _ =>
        Prog.lift (.customCall (SparseCore.inner (Pipeline.entry 1)) ()) >>= fun _ => pure ⟨⟩) := by
  rw [StableHlo.seq_bind_seqK, StableHlo.seq_bind_seqK, StableHlo.seq_bind_seqK]
  chain_rfl

end Cert.Proof

end
-- ==== Proof.Steps.lean ====
/-
  The buffers' contents at every boundary of the program, and each call as a step between two of them.
-/
module

public import proofs.«01_k».proof.Proof.Host

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation)

variable {F : FTy → Type} [FloatOps F]

local notation "𝕄" => MT nD τ sig (HIx 1) (Elt F) ℕ UU ℕ

variable (m : (ℓ : Loc nD τ sig) → Buf (Elt F) ℓ)

/-! ## The buffers' contents from boundary to boundary -/

/-- The TensorCore's view of a device's contents. -/
abbrev tcView (A : Dev nD → Valuation τ sig (Elt F)) : (c : Dev nD) → (b : Ref sig .tc) → Buf (Elt F) ((c : Thread nD τ).loc b) :=
  fun c b => A c b

/-- What the core owes the SparseCores before call `n` of theirs, and the waits it may have recorded by then. -/
abbrev dues (n : ℕ) : Dev nD → CellTallies nD τ sig (HIx 1) := fun d => (K (F := F)).Otc d n
abbrev waits (n : ℕ) : Dev nD → Set (SemLoc sig × HIx 1) := fun d =>
  {p | (K (F := F)).lev (SparseCore.T d, p.1) p.2 ≤ 8 * n}

/-- At the launch, -/
def A0 (d : Dev nD) : Valuation τ sig (Elt F) := fun b => m (d, b)
/-- before the first TensorCore call, -/
def A1 (d : Dev nD) : Valuation τ sig (Elt F) := StableHlo.after opsPrep (A0 m d)
/-- the first TensorCore call's data, -/
abbrev dat1 (c : Dev nD) := top3Dat (tcView (A1 m)) (dues (F := F) 0) (waits (F := F) 0) c
/-- after it, -/
def A2 (d : Dev nD) : Valuation τ sig (Elt F) :=
  Pipeline.withArrays spec0 d (A1 m d) fun w => (dat1 m d).arrAt w cfg0.N
/-- before the SparseCore call, -/
def A3 (d : Dev nD) : Valuation τ sig (Elt F) := StableHlo.after opsFlat (A2 m d)
/-- the feature table, the row numbers and the rows' buffer there, -/
abbrev Xc (d : Dev nD) : Buf (Elt F) (xLoc d) := A3 m d (Proc.devRef .tc main_arg0)
abbrev Jc (d : Dev nD) : Buf (Elt F) (iLoc d) := A3 m d (Proc.devRef .tc main_v31)
abbrev Zc (d : Dev nD) : Buf (Elt F) (oLoc d) := A3 m d (Proc.devRef .tc main_v32)
/-- after it: the rows gathered, -/
def A4 (d : Dev nD) : Valuation τ sig (Elt F) :=
  Function.update (A3 m d) (Proc.devRef .tc main_v32) (gat (Xc m) (Jc m) d)
/-- before the second TensorCore call, -/
def A5 (d : Dev nD) : Valuation τ sig (Elt F) := StableHlo.after opsBack (A4 m d)
/-- that call's data, -/
abbrev dat2 (c : Dev nD) := wsumDat (tcView (A5 m)) (dues (F := F) 1) (waits (F := F) 1) c
/-- and at the return. -/
def A6 (d : Dev nD) : Valuation τ sig (Elt F) :=
  Pipeline.withArrays spec2 d (A5 m d) fun w => (dat2 m d).arrAt w cfg2.N

theorem A2_arr (c : Dev nD) (w : Fin cfg0.W) :
    A2 m c (Proc.devRef .tc (Pipeline.arrRef spec0 w)) = (dat1 m c).arrAt w cfg0.N := by
  unfold A2; exact Pipeline.withArrays_arr spec0 launch0.win.arr_inj c _ _ w
theorem A2_of_ne (c : Dev nD) (b : Ref sig .tc) (hb : ∀ w, Pipeline.arrRef spec0 w ≠ b) :
    A2 m c (Proc.devRef .tc b) = A1 m c (Proc.devRef .tc b) := by
  unfold A2; exact Pipeline.withArrays_of_ne spec0 c _ _ b hb
theorem A2_of (c : Dev nD) (r : Ref sig .tc) (h : ∀ w : Fin cfg0.W, Pipeline.arrRef spec0 w = r → (cfg0.win w).isOut = false) :
    A2 m c (Proc.devRef .tc r) = A1 m c (Proc.devRef .tc r) := by
  by_cases hw : ∃ w : Fin cfg0.W, Pipeline.arrRef spec0 w = r
  · obtain ⟨w, rfl⟩ := hw
    exact (A2_arr m c w).trans (((dat1 m c).arrAt_in w (h w rfl) _).trans (top3_A _ _ _ c w))
  · exact A2_of_ne m c r fun w e => hw ⟨w, e⟩
theorem A6_arr (c : Dev nD) (w : Fin cfg2.W) :
    A6 m c (Proc.devRef .tc (Pipeline.arrRef spec2 w)) = (dat2 m c).arrAt w cfg2.N := by
  unfold A6; exact Pipeline.withArrays_arr spec2 launch2.win.arr_inj c _ _ w
theorem A6_of_ne (c : Dev nD) (b : Ref sig .tc) (hb : ∀ w, Pipeline.arrRef spec2 w ≠ b) :
    A6 m c (Proc.devRef .tc b) = A5 m c (Proc.devRef .tc b) := by
  unfold A6; exact Pipeline.withArrays_of_ne spec2 c _ _ b hb

/-! ## The arguments keep their contents -/

/-- The program's arguments. -/
abbrev args : List (Ref sig .tc) := [main_arg0, main_arg1, main_arg2, main_arg3]

theorem A1_args (c : Dev nD) : ∀ a ∈ args, A1 m c (Proc.devRef .tc a) = m ((c : Thread nD τ).loc a) := fun a ha => by
  unfold A1
  exact (StableHlo.after_of_writes_sub opsPrep _ opsPrep_writes
    ((ListAll.forall_mem_of_all_decide (by decide +kernel) : ∀ a ∈ args, a ∉ opsPrep_W) a ha)).trans rfl
theorem A2_args (c : Dev nD) : ∀ a ∈ args, A2 m c (Proc.devRef .tc a) = m ((c : Thread nD τ).loc a) := fun a ha =>
  (A2_of_ne m c a ((ListAll.forall_mem_of_all_decide (by decide +kernel) :
    ∀ a ∈ args, ∀ w : Fin cfg0.W, Pipeline.arrRef spec0 w ≠ a) a ha)).trans (A1_args m c a ha)
theorem A3_args (c : Dev nD) : ∀ a ∈ args, A3 m c (Proc.devRef .tc a) = m ((c : Thread nD τ).loc a) := fun a ha => by
  unfold A3
  exact (StableHlo.after_of_writes_sub opsFlat _ opsFlat_writes
    ((ListAll.forall_mem_of_all_decide (by decide +kernel) : ∀ a ∈ args, a ∉ opsFlat_W) a ha)).trans (A2_args m c a ha)
theorem A4_of_ne (c : Dev nD) (b : DevRef τ sig) (hb : b ≠ Proc.devRef .tc main_v32) : A4 m c b = A3 m c b := by
  unfold A4; exact Function.update_of_ne hb _ _
theorem A4_rows (c : Dev nD) : A4 m c (Proc.devRef .tc main_v32) = gat (Xc m) (Jc m) c := by
  unfold A4; exact Function.update_self _ _ _
theorem A4_args (c : Dev nD) : ∀ a ∈ args, A4 m c (Proc.devRef .tc a) = m ((c : Thread nD τ).loc a) := fun a ha =>
  (A4_of_ne m c _ ((ListAll.forall_mem_of_all_decide (by decide +kernel) :
    ∀ a ∈ args, (Proc.devRef .tc a : DevRef τ sig) ≠ Proc.devRef .tc main_v32) a ha)).trans (A3_args m c a ha)
theorem A5_args (c : Dev nD) : ∀ a ∈ args, A5 m c (Proc.devRef .tc a) = m ((c : Thread nD τ).loc a) := fun a ha => by
  unfold A5
  exact (StableHlo.after_of_writes_sub opsBack _ opsBack_writes
    ((ListAll.forall_mem_of_all_decide (by decide +kernel) : ∀ a ∈ args, a ∉ opsBack_W) a ha)).trans (A4_args m c a ha)
theorem A6_args (c : Dev nD) : ∀ a ∈ args, A6 m c (Proc.devRef .tc a) = m ((c : Thread nD τ).loc a) := fun a ha =>
  (A6_of_ne m c a ((ListAll.forall_mem_of_all_decide (by decide +kernel) :
    ∀ a ∈ args, ∀ w : Fin cfg2.W, Pipeline.arrRef spec2 w ≠ a) a ha)).trans (A5_args m c a ha)

/-! ## The two TensorCore calls as steps -/

abbrev adm : (p : Fin 2) → (pcfgs (F := F) p).Adm := fun p => (cfgs p).toPCfg_adm
/-- Both pipelines' data. -/
def pdats : (p : Fin 2) → (c : Dev nD) → Dat τ (Elt F) (HIx 1) ℕ UU ℕ (Pipeline.pin (pcfgs (F := F)) adm p) c
  | ⟨0, _⟩ => fun c => dat1 m c
  | ⟨1, _⟩ => fun c => dat2 m c

/-- The core's debts before SparseCore call `n`, its recorded waits below that call's. -/
abbrev owing (n : ℕ) (c : Dev nD) : sProp 𝕄 :=
  iprop(∃ W, ⌜(K (F := F)).WBelow (SparseCore.T c) W (8 * n)⌝ ∗ owes (SparseCore.T c) ((K (F := F)).Otc c n) W)
/-- Every unscoped buffer of the TensorCore at contents `A`. -/
abbrev bufs (A : Dev nD → Valuation τ sig (Elt F)) (c : Dev nD) : sProp 𝕄 :=
  StableHlo.held (c : Thread nD τ) (Pipeline.ucRefs τ sig) (A c)

theorem dues_none (n : ℕ) (d : Dev nD) (g : GSem nD τ sig) : (K (F := F)).Otc d n g none = 0 := by
  by_contra h
  have := SparseCore.Cfg.lev_of_Otc_pos (K := K (F := F)) (Nat.pos_of_ne_zero h)
  rw [SparseCore.Cfg.lev_none] at this; omega

set_option backward.isDefEq.respectTransparency.types false in
/-- The first TensorCore call, from the contents before it to those after. -/
def top3Seg : Pipeline.RegionSeg (pcfgs (F := F)) adm (pdats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (top3_obligation (tcView (A1 m)) (dues (F := F) 0) (waits (F := F) 0) c).loose
  hwaits c := Pipeline.cellsWaits_intro (Pipeline.pin (pcfgs (F := F)) adm) (pdats m) none 0 c
    fun w s t => (K (F := F)).mayWait_none _ (dues_none 0 c)
  pre c := iprop(bufs (A1 m) c ∗ owing 0 c)
  post c := iprop(bufs (A2 m) c ∗ owing 0 c)
  X c := iprop(emp)
  Y c := iprop(emp)
  Z c := Pipeline.unscopedRest (Ix := HIx 1) (Name := ℕ) (U := UU) (Lvl := ℕ) spec0 c (tcView (A1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (tcView (A1 m) c) (top3_A _ _ _ c)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W; isplitr; · ipureintro; exact fun p hp => Or.inl (hW p hp)
      iexact HO
    isplitr; · iempintro
    iexact Hrest
  hin c := by
    rw [show (pdats m 0 c).Φ 0 = Pipeline.scopedRest (Ix := HIx 1) (Name := ℕ) (U := UU) (Lvl := ℕ) (Val := Elt F) spec0 c from rfl]
    iintro ⟨-, -, Hr⟩
    iexact Hr
  hout c := by
    rw [Pipeline.ownSems0_none, show (pdats m 0 c).Φ (Fin.last _)
      = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (tcView (A1 m) c) (tcView (A2 m) c) ((pdats m 0 c).arrAt · cfg0.N) (fun w => (A2_arr m c w).symm)
      (fun b hb => A2_of_ne m c b fun w e => hb (Finset.mem_image.mpr ⟨w, Finset.mem_univ _, e⟩))
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩
    iexists W; isplitr
    · ipureintro
      intro p hp
      rcases hW hp with h | h
      · exact h
      · obtain ⟨w, s, rfl⟩ := h; exact (SparseCore.Cfg.lev_none _ _).le.trans (Nat.zero_le _)
    iexact HO

set_option backward.isDefEq.respectTransparency.types false in
/-- The second TensorCore call, from the contents before it to those at the return. -/
def wsumSeg : Pipeline.RegionSeg (pcfgs (F := F)) adm (pdats m) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (wsum_obligation (tcView (A5 m)) (dues (F := F) 1) (waits (F := F) 1) c).loose
  hwaits c := Pipeline.cellsWaits_intro (Pipeline.pin (pcfgs (F := F)) adm) (pdats m) none 1 c
    fun w s t => (K (F := F)).mayWait_none _ (dues_none 1 c)
  pre c := iprop(bufs (A5 m) c ∗ owing 1 c)
  post c := iprop(bufs (A6 m) c ∗ owing 1 c)
  X c := iprop(emp)
  Y c := iprop(emp)
  Z c := Pipeline.unscopedRest (Ix := HIx 1) (Name := ℕ) (U := UU) (Lvl := ℕ) spec2 c (tcView (A5 m) c)
  hentry c := by
    rw [Pipeline.ownSems0_none]
    have hsplit := Pipeline.arrays_of_unscopedBufs (p := 1) (pcfgs (F := F)) adm (pdats m) launch2.win launch2.arr_whole c
      ((pdats m 1 c).share_full fun _ => rfl) (tcView (A5 m) c) (wsum_A _ _ _ c)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W; isplitr; · ipureintro; exact fun p hp => Or.inl (hW p hp)
      iexact HO
    isplitr; · iempintro
    iexact Hrest
  hin c := by
    rw [show (pdats m 1 c).Φ 0 = Pipeline.scopedRest (Ix := HIx 1) (Name := ℕ) (U := UU) (Lvl := ℕ) (Val := Elt F) spec2 c from rfl]
    iintro ⟨-, -, Hr⟩
    iexact Hr
  hout c := by
    rw [Pipeline.ownSems0_none, show (pdats m 1 c).Φ (Fin.last _)
      = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (tcView (A5 m) c) (tcView (A6 m) c) ((pdats m 1 c).arrAt · cfg2.N) (fun w => (A6_arr m c w).symm)
      (fun b hb => A6_of_ne m c b fun w e => hb (Finset.mem_image.mpr ⟨w, Finset.mem_univ _, e⟩))
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩
    iexists W; isplitr
    · ipureintro
      intro p hp
      rcases hW hp with h | h
      · exact h
      · obtain ⟨w, s, rfl⟩ := h; exact (SparseCore.Cfg.lev_none _ _).le.trans (Nat.zero_le _)
    iexact HO

end Cert.Proof

end
-- ==== Proof.Run.lean ====
/-
  The program run: the host operations and the three calls composed, and what it leaves in every buffer.
-/
module

public import proofs.«01_k».proof.Proof.Steps

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation)

variable {F : FTy → Type} [FloatOps F]

local notation "𝕄" => MT nD τ sig (HIx 1) (Elt F) ℕ UU ℕ

variable (m : (ℓ : Loc nD τ sig) → Buf (Elt F) ℓ) (ρ : Dev nD → PrngReg)

/-- What a core is dealt for pipeline `p`: its cells' launch states and its tokens. -/
abbrev deal (p : Fin 2) (c : Dev nD) : sProp 𝕄 :=
  iprop(Pipeline.cellsGhost (Pipeline.pin (pcfgs (F := F)) adm) EP p c ∗ Pipeline.toksInit (Pipeline.pin (pcfgs (F := F)) adm) EP p c)

/-- An unscoped reference of the TensorCore is among its unscoped buffers. -/
theorem mem_unscoped (b : Ref sig .tc) (h : ¬ (Proc.devRef (τ := τ) .tc b).isScoped) : Proc.devRef .tc b ∈ Pipeline.ucRefs τ sig :=
  Finset.mem_filter.mpr ⟨StableHlo.devRef_mem_tcRefs b, h⟩

/-- The first TensorCore call, run from the contents before it. -/
theorem wp_top3 (d : Dev nD) (k : PUnit → Prog (TpuEff nD τ sig (Elt F) (SparseCore.Sig (ΛP (F := F)) 1) .tc) PUnit) (Q : PUnit → sProp 𝕄) :
    iprop(boundary (d : Thread nD τ) ∗ bufs (A1 m) d ∗ owing 0 d ∗ levAts (K (F := F)).L (K (F := F)).lev ∗ deal 0 d
        ∗ ((boundary (d : Thread nD τ) ∗ bufs (A2 m) d ∗ owing 0 d) -∗ wp frame (wpE ((K (F := F)).defs D) 𝒱 (d : Thread nD τ) none) Set.univ (k ⟨⟩) Q))
      ⊢ wp frame (wpE ((K (F := F)).defs D) 𝒱 (d : Thread nD τ) none) Set.univ
          (Prog.lift (.customCall (SparseCore.inner (Pipeline.entry 0)) ()) >>= k) Q := by
  rw [wp_bind]
  have h := (Pipeline.RegionSeg.wp (pcfgs (F := F)) adm (pdats m) none cellOf_inj EP defs₀ 𝒱₀ (K (F := F)).L (K (F := F)).lev
    (top3Seg m) d none (fun _ h => (Option.not_mem_none _ h).elim) (fun _ => .ret ⟨⟩)
    (fun u => wp frame (wpE ((K (F := F)).defs D) 𝒱 (d : Thread nD τ) none) Set.univ (k u) Q)).trans
    ((K (F := F)).wp_liftProg D 𝒱 (d : Thread nD τ) Set.univ none _ _)
  iintro ⟨Hb, Hbufs, Ho, Hl, ⟨Hg, Ht⟩, Hk⟩
  iapply h
  isplitl [Hk]
  · iintro ⟨Hb, Hp⟩
    ihave Hp := (Entails.of_eq (show (top3Seg m).post d = iprop(bufs (A2 m) d ∗ owing 0 d) from rfl)) $$ Hp
    icases Hp with ⟨Hbufs, Ho⟩
    rw [wp_ret]; imodintro
    iapply Hk
    isplitl [Hb]; · iexact Hb
    isplitl [Hbufs] <;> iassumption
  isplitl [Hb]; · iexact Hb
  isplitl [Hbufs Ho]
  · iapply (Entails.of_eq (show iprop(bufs (A1 m) d ∗ owing 0 d) = (top3Seg m).pre d from rfl))
    isplitl [Hbufs] <;> iassumption
  isplitl [Hl]; · iexact Hl
  isplitl [Hg]; · iexact Hg
  iexact Ht

/-- The second TensorCore call, run from the contents before it. -/
theorem wp_wsum (d : Dev nD) (k : PUnit → Prog (TpuEff nD τ sig (Elt F) (SparseCore.Sig (ΛP (F := F)) 1) .tc) PUnit) (Q : PUnit → sProp 𝕄) :
    iprop(boundary (d : Thread nD τ) ∗ bufs (A5 m) d ∗ owing 1 d ∗ levAts (K (F := F)).L (K (F := F)).lev ∗ deal 1 d
        ∗ ((boundary (d : Thread nD τ) ∗ bufs (A6 m) d ∗ owing 1 d) -∗ wp frame (wpE ((K (F := F)).defs D) 𝒱 (d : Thread nD τ) none) Set.univ (k ⟨⟩) Q))
      ⊢ wp frame (wpE ((K (F := F)).defs D) 𝒱 (d : Thread nD τ) none) Set.univ
          (Prog.lift (.customCall (SparseCore.inner (Pipeline.entry 1)) ()) >>= k) Q := by
  rw [wp_bind]
  have h := (Pipeline.RegionSeg.wp (pcfgs (F := F)) adm (pdats m) none cellOf_inj EP defs₀ 𝒱₀ (K (F := F)).L (K (F := F)).lev
    (wsumSeg m) d none (fun _ h => (Option.not_mem_none _ h).elim) (fun _ => .ret ⟨⟩)
    (fun u => wp frame (wpE ((K (F := F)).defs D) 𝒱 (d : Thread nD τ) none) Set.univ (k u) Q)).trans
    ((K (F := F)).wp_liftProg D 𝒱 (d : Thread nD τ) Set.univ none _ _)
  iintro ⟨Hb, Hbufs, Ho, Hl, ⟨Hg, Ht⟩, Hk⟩
  iapply h
  isplitl [Hk]
  · iintro ⟨Hb, Hp⟩
    ihave Hp := (Entails.of_eq (show (wsumSeg m).post d = iprop(bufs (A6 m) d ∗ owing 1 d) from rfl)) $$ Hp
    icases Hp with ⟨Hbufs, Ho⟩
    rw [wp_ret]; imodintro
    iapply Hk
    isplitl [Hb]; · iexact Hb
    isplitl [Hbufs] <;> iassumption
  isplitl [Hb]; · iexact Hb
  isplitl [Hbufs Ho]
  · iapply (Entails.of_eq (show iprop(bufs (A5 m) d ∗ owing 1 d) = (wsumSeg m).pre d from rfl))
    isplitl [Hbufs] <;> iassumption
  isplitl [Hl]; · iexact Hl
  isplitl [Hg]; · iexact Hg
  iexact Ht

/-- The SparseCore call: the table, the row numbers and the rows' buffer lent to the subcores, the rows back gathered. -/
theorem wp_gather (κ : GSem nD τ sig → ℕ) (d : Dev nD) (k : PUnit → Prog (TpuEff nD τ sig (Elt F) (SparseCore.Sig (ΛP (F := F)) 1) .tc) PUnit) (Q : PUnit → sProp 𝕄) :
    iprop((K (F := F)).ctx EH (P (Xc m) (Jc m) (Zc m)) κ ∗ (K (F := F)).tcSt EH d 0 ∗ bufs (A3 m) d
        ∗ (((K (F := F)).tcSt EH d 1 ∗ bufs (A4 m) d) -∗ wp frame (wpE ((K (F := F)).defs D) 𝒱 (d : Thread nD τ) none) Set.univ (k ⟨⟩) Q))
      ⊢ wp frame (wpE ((K (F := F)).defs D) 𝒱 (d : Thread nD τ) none) Set.univ (sc.run d 0 >>= k) Q := by
  rw [wp_bind]
  have hX : Proc.devRef .tc main_arg0 ∈ Pipeline.ucRefs τ sig := mem_unscoped main_arg0 (by decide)
  have hJ : Proc.devRef .tc main_v31 ∈ (Pipeline.ucRefs τ sig).erase (Proc.devRef .tc main_arg0) :=
    Finset.mem_erase.mpr ⟨by decide, mem_unscoped main_v31 (by decide)⟩
  have hZ : Proc.devRef .tc main_v32 ∈ ((Pipeline.ucRefs τ sig).erase (Proc.devRef .tc main_arg0)).erase (Proc.devRef .tc main_v31) :=
    Finset.mem_erase.mpr ⟨by decide, Finset.mem_erase.mpr ⟨by decide, mem_unscoped main_v32 (by decide)⟩⟩
  have split (A : Valuation τ sig (Elt F)) : (StableHlo.held (d : Thread nD τ) (Pipeline.ucRefs τ sig) A : sProp 𝕄)
      = iprop((xLoc d ↦{fullShare} A (Proc.devRef .tc main_arg0)) ∗ (iLoc d ↦{fullShare} A (Proc.devRef .tc main_v31))
          ∗ (oLoc d ↦{fullShare} A (Proc.devRef .tc main_v32))
          ∗ bigSep (((((Pipeline.ucRefs τ sig).erase (Proc.devRef .tc main_arg0)).erase (Proc.devRef .tc main_v31)).erase (Proc.devRef .tc main_v32)))
              fun b => ((d, b) : Loc nD τ sig) ↦{fullShare} A b) := by
    unfold StableHlo.held
    rw [BI.bigSep_erase hX, BI.bigSep_erase hJ, BI.bigSep_erase hZ]
    rfl
  have rest : (bigSep (((((Pipeline.ucRefs τ sig).erase (Proc.devRef .tc main_arg0)).erase (Proc.devRef .tc main_v31)).erase (Proc.devRef .tc main_v32)))
              fun b => ((d, b) : Loc nD τ sig) ↦{fullShare} A3 m d b : sProp 𝕄)
      = bigSep (((((Pipeline.ucRefs τ sig).erase (Proc.devRef .tc main_arg0)).erase (Proc.devRef .tc main_v31)).erase (Proc.devRef .tc main_v32)))
              fun b => ((d, b) : Loc nD τ sig) ↦{fullShare} A4 m d b :=
    bigSep_congr fun b hb => by rw [A4_of_ne m d b (Finset.ne_of_mem_erase hb)]
  have e0 : A4 m d (Proc.devRef .tc main_arg0) = Xc m d := A4_of_ne m d _ (by decide)
  have e1 : A4 m d (Proc.devRef .tc main_v31) = Jc m d := A4_of_ne m d _ (by decide)
  iintro ⟨#Hctx, Hst, Hbufs, Hk⟩
  ihave Hbufs := (Entails.of_eq (split (A3 m d))) $$ Hbufs
  icases Hbufs with ⟨Hx, Hi, Ho, Hr⟩
  iapply ((K (F := F)).wp_run D 𝒱 (EH := EH) (P := P (Xc m) (Jc m) (Zc m)) κ d 0) $$ [Hst Hx Hi Ho Hr Hk]
  isplitr; · iexact Hctx
  isplitl [Hst]; · iexact Hst
  isplitl [Hx Hi Ho]
  · rw [st_whole]
    isplitl [Hx]; · iexact Hx
    isplitl [Hi]; · iexact Hi
    iexact Ho
  iintro ⟨Hst, Hdn⟩
  ihave Hdn := (Entails.of_eq (dn_whole (Xc m) (Jc m) (Zc m) d)) $$ Hdn
  icases Hdn with ⟨Hx, Hi, Ho⟩
  iapply Hk
  isplitl [Hst]; · iexact Hst
  iapply (Entails.of_eq (split (A4 m d)).symm)
  rw [e0, e1, A4_rows, ← rest]
  isplitl [Hx]; · iexact Hx
  isplitl [Hi]; · iexact Hi
  isplitl [Ho]; · iexact Ho
  iexact Hr

/-! ## @main on the TensorCore -/

/-- The program on a core: from the launch's contents to every buffer at the return's. -/
theorem hmain (κ : GSem nD τ sig → ℕ) (d : Dev nD) :
    iprop((K (F := F)).ctx EH (P (Xc m) (Jc m) (Zc m)) κ ∗ (K (F := F)).tcSt EH d 0 ∗ (K (F := F)).tcRes m ρ d ∗ (deal 0 d ∗ deal 1 d))
      ⊢ wp frame (wpE ((K (F := F)).defs D) 𝒱 (SparseCore.T d) none) Set.univ (main d)
          fun _ => iprop((K (F := F)).tcSt EH d 1 ∗ bufs (A6 m) d ∗ (K (F := F)).tcEnd d) := by
  have hl := SparseCore.Cfg.ctx_levAts (K := K (F := F)) (lv := (K (F := F)).lev) (EH := EH) (P := P (Xc m) (Jc m) (Zc m)) κ
  obtain ⟨R0, st0⟩ : ∃ R : sProp 𝕄, (K (F := F)).tcSt EH d 0 = iprop(owing 0 d ∗ R) := ⟨_, by unfold SparseCore.Cfg.tcSt; rfl⟩
  obtain ⟨R1, st1⟩ : ∃ R : sProp 𝕄, (K (F := F)).tcSt EH d 1 = iprop(owing 1 d ∗ R) := ⟨_, by unfold SparseCore.Cfg.tcSt; rfl⟩
  unfold SparseCore.Cfg.tcRes SparseCore.Cfg.tcEnd
  rw [main_eq, show (unscopedBufs d fun b => m ((d : Thread nD τ).loc b) : sProp 𝕄) = bufs (A0 m) d from
    Pipeline.unscopedBufs_held d (A0 m d)]
  iintro ⟨#Hctx, Hst, ⟨Hb, Hbufs, Hts, -⟩, Hd0, Hd1⟩
  ihave #Hl := hl $$ Hctx
  iapply (StableHlo.wp_seq 𝒱 none Set.univ d (Pipeline.ucRefs τ sig) _ opsPrep
    (fun op h b hb => Pipeline.sub_ucRefs op (List.forall_iff_forall_mem.mp opsPrep_sub op h) hb) (List.forall_iff_forall_mem.mp opsPrep_fresh) (A0 m d)) $$ [Hb Hbufs]
  · isplitl [Hb] <;> iassumption
  iintro ⟨Hb, Hbufs⟩
  ihave Hst := (Entails.of_eq st0) $$ Hst
  icases Hst with ⟨Ho, Hst⟩
  iapply (wp_top3 m d)
  isplitl [Hb]; · iexact Hb
  isplitl [Hbufs]; · iexact Hbufs
  isplitl [Ho]; · iexact Ho
  isplitr; · iexact Hl
  isplitl [Hd0]; · iexact Hd0
  iintro ⟨Hb, Hbufs, Ho⟩
  iapply (StableHlo.wp_seq 𝒱 none Set.univ d (Pipeline.ucRefs τ sig) _ opsFlat
    (fun op h b hb => Pipeline.sub_ucRefs op (List.forall_iff_forall_mem.mp opsFlat_sub op h) hb) (List.forall_iff_forall_mem.mp opsFlat_fresh) (A2 m d)) $$ [Hb Hbufs]
  · isplitl [Hb] <;> iassumption
  iintro ⟨Hb, Hbufs⟩
  iapply (wp_gather m κ d)
  isplitr; · iexact Hctx
  isplitl [Ho Hst]
  · iapply (Entails.of_eq st0.symm); isplitl [Ho] <;> iassumption
  isplitl [Hbufs]; · iexact Hbufs
  iintro ⟨Hst, Hbufs⟩
  iapply (StableHlo.wp_seq 𝒱 none Set.univ d (Pipeline.ucRefs τ sig) _ opsBack
    (fun op h b hb => Pipeline.sub_ucRefs op (List.forall_iff_forall_mem.mp opsBack_sub op h) hb) (List.forall_iff_forall_mem.mp opsBack_fresh) (A4 m d)) $$ [Hb Hbufs]
  · isplitl [Hb] <;> iassumption
  iintro ⟨Hb, Hbufs⟩
  ihave Hst := (Entails.of_eq st1) $$ Hst
  icases Hst with ⟨Ho, Hst⟩
  iapply (wp_wsum m d)
  isplitl [Hb]; · iexact Hb
  isplitl [Hbufs]; · iexact Hbufs
  isplitl [Ho]; · iexact Ho
  isplitr; · iexact Hl
  isplitl [Hd1]; · iexact Hd1
  iintro ⟨Hb, Hbufs, Ho⟩
  rw [wp_pure]
  imodintro
  isplitl [Ho Hst]
  · iapply (Entails.of_eq st1.symm); isplitl [Ho] <;> iassumption
  isplitl [Hbufs]; · iexact Hbufs
  isplitl [Hb] <;> iassumption

/-! ## The launch's ghost state -/

/-- The handshakes' launch state and the pipelines'. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => iprop(deal 0 d ∗ deal 1 d))
        ∗ bigSep Finset.univ fun thr : Thread nD τ => bigSep Finset.univ fun q : Fin 1 => (P (Xc m) (Jc m) (Zc m)).x q thr) := by
  unfold u₀
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), 1) : UP × Counters)) $$ Hu
  icases H with ⟨HH, HR⟩
  ihave HR := (own_pair_emb (embR : Emb (UP × Counters) 𝕄)
    (initOf (Pipeline.cells (Pipeline.pin (pcfgs (F := F)) adm) cellOf_inj) (Pipeline.launchToks (Pipeline.pin (pcfgs (F := F)) adm) cellOf_inj)) (1 : Counters)) $$ HR
  icases HR with ⟨HP, -⟩
  imod (Pipeline.fund_ghost (Pipeline.pin (pcfgs (F := F)) adm) (EP (F := F)) cellOf_inj) $$ [HP] with ⟨Hg, Ht⟩
  · iexact HP
  imodintro
  isplitl [HH]; · iexact HH
  isplitl [Hg Ht]
  · have e : (bigSep Finset.univ fun d : Dev nD => iprop(deal 0 d ∗ deal 1 d) : sProp 𝕄)
      = iprop((bigSep Finset.univ fun c : Dev nD => bigSep Finset.univ fun p : Fin 2 => Pipeline.cellsGhost (Pipeline.pin (pcfgs (F := F)) adm) EP p c)
        ∗ (bigSep Finset.univ fun c : Dev nD => bigSep Finset.univ fun p : Fin 2 => Pipeline.toksInit (Pipeline.pin (pcfgs (F := F)) adm) EP p c)) := by
      rw [← bigSep_sep']
      refine bigSep_congr fun d _ => ?_
      rw [← bigSep_sep', BI.bigSep_fin_two]
      rfl
    rw [e]
    isplitl [Hg] <;> iassumption
  rw [show (bigSep Finset.univ fun thr : Thread nD τ => bigSep Finset.univ fun q : Fin 1 => (P (Xc m) (Jc m) (Zc m)).x q thr)
    = (iprop(emp) : sProp 𝕄) from (bigSep_congr fun _ _ => bigSep_univ_of_subsingleton (0 : Fin 1)).trans (bigSep_emp_const Finset.univ)]
  iempintro

/-! ## The run -/

/-- Every unscoped buffer of the TensorCore at the return's contents. -/
def fq (d : Dev nD) (s' : Phys nD τ sig (Elt F)) : Prop := ∀ b ∈ Pipeline.ucRefs τ sig, s'.mem.mem (d, b) = A6 m d b

theorem hfin (d : Dev nD) (s' : Phys nD τ sig (Elt F)) : iprop(bufs (A6 m) d ∗ SI s') ⊢ (⌜fq m d s'⌝ : sProp 𝕄) := by
  unfold bufs StableHlo.held
  iintro H
  ihave H := (pointsTo_read_all (Pipeline.ucRefs τ sig) (fun b => ((d, b) : Loc nD τ sig)) (A6 m d) s') $$ H
  icases H with ⟨%h, -⟩
  ipureintro
  exact h

/-- The program's run: every buffer at the return's contents, every semaphore at zero. -/
def QC : PUnit × MemSt nD τ sig (Elt F) → Prop := fun r =>
  (∀ (c : Dev nD), ∀ b ∈ Pipeline.ucRefs τ sig, r.2.mem (c, b) = A6 m c b) ∧ r.2.sem = fun _ => 0

/-- From any memory whose row numbers stay within the table, the program runs to `QC`. -/
theorem run_main [∀ e, Nonempty (Elt F e)] (hJ : InRange (Jc m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Xc m) (Jc m) (Zc m)) (A := ∅) scFacts v₀
    (fun q hq => match q with | 0 => nomatch hq)
    (fun q _ => match q with | 0 => tileObl (Xc m) (Jc m) (Zc m) scFacts hJ)
    (fun q _ => match q with | 0 => SparseCore.Cfg.VecSplit.of_plain (vecSplit (Xc m) (Jc m) (Zc m)))
    m ρ main (fun d => iprop(deal 0 d ∗ deal 1 d)) (fun d => bufs (A6 m) d) (u₀ (F := F)) (sep_elim_left.trans (hu₀ m)) (hmain m ρ)
    (fq m) (hfin m) (QC m) (fun _ h hz => ⟨h, hz⟩)

end Cert.Proof

end
-- ==== Proof.Least.lean ====
/-
  The least elements of a finite family, ties going to the smaller number: the three least one after another, a two-level
  search for them, and the extraction of one by a minimum and a minimum of the numbers at it.
-/
module

public import Idealize.ShloMosaic.Lib.Pointwise

@[expose] public section

noncomputable section

namespace Cert.Proof

open Idealize.ShloMosaic

/-! ## The order by value, then by number -/

/-- `a` comes no later than `j`: its value is smaller, or the same and its number is no larger. -/
def Before {ι : Type} (d : ι → EReal) (num : ι → ℕ) (a j : ι) : Prop := d a < d j ∨ (d a = d j ∧ num a ≤ num j)

theorem Before.trans {ι : Type} {d : ι → EReal} {num : ι → ℕ} {a b c : ι} (h : Before d num a b) (k : Before d num b c) :
    Before d num a c := by
  rcases h with h | ⟨h, h'⟩ <;> rcases k with k | ⟨k, k'⟩
  · exact .inl (h.trans k)
  · exact .inl (k ▸ h)
  · exact .inl (h ▸ k)
  · exact .inr ⟨h.trans k, h'.trans k'⟩

theorem Before.antisymm {ι : Type} {d : ι → EReal} {num : ι → ℕ} {a b : ι} (h : Before d num a b) (k : Before d num b a) :
    num a = num b := by
  rcases h with h | ⟨h, h'⟩ <;> rcases k with k | ⟨k, k'⟩
  · exact absurd k h.not_gt
  · exact absurd (k ▸ h) (lt_irrefl _)
  · exact absurd (h ▸ k) (lt_irrefl _)
  · exact le_antisymm h' k'

/-- `a`, `b`, `c` are the first three, in this order. -/
structure First3 {ι : Type} (d : ι → EReal) (num : ι → ℕ) (a b c : ι) : Prop where
  one : ∀ j, Before d num a j
  ne1 : num b ≠ num a
  two : ∀ j, num j ≠ num a → Before d num b j
  ne2 : num c ≠ num a
  ne3 : num c ≠ num b
  three : ∀ j, num j ≠ num a → num j ≠ num b → Before d num c j

/-- The first three are determined. -/
theorem First3.unique {ι : Type} {d : ι → EReal} {num : ι → ℕ} {a b c a' b' c' : ι} (h : First3 d num a b c) (h' : First3 d num a' b' c') :
    num a = num a' ∧ num b = num b' ∧ num c = num c' := by
  have e1 : num a = num a' := (h.one a').antisymm (h'.one a)
  have e2 : num b = num b' := (h.two b' (e1 ▸ h'.ne1)).antisymm (h'.two b (e1 ▸ h.ne1))
  exact ⟨e1, e2, (h.three c' (e1 ▸ h'.ne2) (e2 ▸ h'.ne3)).antisymm (h'.three c (e1 ▸ h.ne2) (e2 ▸ h.ne3))⟩

/-! ## A two-level search -/

/-- The first three of 8192 lie in the first three of the 64 chunks of 128, a chunk being ranked by its minimum. -/
theorem First3.of_chunks (d : Fin 8192 → EReal) (cm : Fin 64 → EReal) (hle : ∀ (c : Fin 64) (j : Fin 8192), j.val / 128 = c.val → cm c ≤ d j)
    (hex : ∀ c : Fin 64, ∃ j : Fin 8192, j.val / 128 = c.val ∧ d j = cm c) (c1 c2 c3 : Fin 64) (hc : First3 cm Fin.val c1 c2 c3)
    (a b c : Fin 8192) (In : Fin 8192 → Prop)
    (hIn : ∀ j, In j ↔ j.val / 128 = c1.val ∨ j.val / 128 = c2.val ∨ j.val / 128 = c3.val)
    (ha : ∀ j, In j → Before d Fin.val a j)
    (hb : b ≠ a) (hb' : ∀ j, In j → j ≠ a → Before d Fin.val b j)
    (hca : c ≠ a) (hcb : c ≠ b) (hc' : ∀ j, In j → j ≠ a → j ≠ b → Before d Fin.val c j) : First3 d Fin.val a b c := by
  obtain ⟨p1, q1, e1⟩ := hex c1
  obtain ⟨p2, q2, e2⟩ := hex c2
  obtain ⟨p3, q3, e3⟩ := hex c3
  -- a chosen chunk's least element comes before every element outside the chosen chunks
  have out (k : Fin 64) (p : Fin 8192) (q : p.val / 128 = k.val) (e : d p = cm k) (j : Fin 8192)
      (h : ∀ i : Fin 64, j.val / 128 = i.val → Before cm Fin.val k i ∧ k ≠ i) : Before d Fin.val p j := by
    have hj : j.val / 128 < 64 := by have := j.isLt; omega
    obtain ⟨h1, h2⟩ := h ⟨j.val / 128, hj⟩ rfl
    have l := hle ⟨j.val / 128, hj⟩ j rfl
    rcases h1 with h1 | ⟨h1, h1'⟩
    · exact .inl (e ▸ h1.trans_le l)
    · have h2' : k.val ≠ j.val / 128 := fun x => h2 (Fin.ext x)
      have hlt : p.val ≤ j.val := by simp only at h1'; omega
      rcases lt_or_eq_of_le (e ▸ h1 ▸ l : d p ≤ d j) with x | x
      · exact .inl x
      · exact .inr ⟨x, hlt⟩
  have o1 (j : Fin 8192) (h : ¬ In j) : Before d Fin.val p1 j := out c1 p1 q1 e1 j fun i hi =>
    ⟨hc.one i, fun x => h ((hIn j).mpr (.inl (hi.trans (congrArg Fin.val x.symm))))⟩
  have o2 (j : Fin 8192) (h : ¬ In j) : Before d Fin.val p2 j := out c2 p2 q2 e2 j fun i hi =>
    ⟨hc.two i fun x => h ((hIn j).mpr (.inl (hi.trans x))), fun x => h ((hIn j).mpr (.inr (.inl (hi.trans (congrArg Fin.val x.symm)))))⟩
  have o3 (j : Fin 8192) (h : ¬ In j) : Before d Fin.val p3 j := out c3 p3 q3 e3 j fun i hi =>
    ⟨hc.three i (fun x => h ((hIn j).mpr (.inl (hi.trans x)))) fun x => h ((hIn j).mpr (.inr (.inl (hi.trans x)))),
      fun x => h ((hIn j).mpr (.inr (.inr (hi.trans (congrArg Fin.val x.symm)))))⟩
  have i1 : In p1 := (hIn p1).mpr (.inl q1)
  have i2 : In p2 := (hIn p2).mpr (.inr (.inl q2))
  have i3 : In p3 := (hIn p3).mpr (.inr (.inr q3))
  have n12 : p1 ≠ p2 := fun x => hc.ne1 (q2.symm.trans ((congrArg (fun z : Fin 8192 => z.val / 128) x.symm).trans q1))
  have n13 : p1 ≠ p3 := fun x => hc.ne2 (q3.symm.trans ((congrArg (fun z : Fin 8192 => z.val / 128) x.symm).trans q1))
  have n23 : p2 ≠ p3 := fun x => hc.ne3 (q3.symm.trans ((congrArg (fun z : Fin 8192 => z.val / 128) x.symm).trans q2))
  refine ⟨fun j => ?_, fun x => hb (Fin.ext x), fun j hj => ?_, fun x => hca (Fin.ext x), fun x => hcb (Fin.ext x), fun j hj hj' => ?_⟩
  · by_cases h : In j
    · exact ha j h
    · exact (ha p1 i1).trans (o1 j h)
  · by_cases h : In j
    · exact hb' j h fun x => hj (congrArg Fin.val x)
    · by_cases h1 : p1 = a
      · exact (hb' p2 i2 (h1 ▸ n12.symm)).trans (o2 j h)
      · exact (hb' p1 i1 h1).trans (o1 j h)
  · by_cases h : In j
    · exact hc' j h (fun x => hj (congrArg Fin.val x)) fun x => hj' (congrArg Fin.val x)
    · by_cases h1 : p1 ≠ a ∧ p1 ≠ b
      · exact (hc' p1 i1 h1.1 h1.2).trans (o1 j h)
      · by_cases h2 : p2 ≠ a ∧ p2 ≠ b
        · exact (hc' p2 i2 h2.1 h2.2).trans (o2 j h)
        · refine (hc' p3 i3 ?_ ?_).trans (o3 j h)
          · rintro rfl
            exact n12 ((not_and_not_right.mp h1 n13).trans (not_and_not_right.mp h2 n23).symm)
          · rintro rfl
            have t1 : p1 = a := by by_contra x; exact h1 ⟨x, n13⟩
            have t2 : p2 = a := by by_contra x; exact h2 ⟨x, n23⟩
            exact n12 (t1.trans t2.symm)

/-! ## One extraction -/

theorem toInt_minsi (a b : BitVec 32) : (IntOp.minsi a b).toInt = min a.toInt b.toInt := by
  unfold IntOp.minsi
  split
  · next h => rw [BitVec.slt_iff_toInt_lt] at h; omega
  · next h => rw [BitVec.slt_iff_toInt_lt] at h; omega

theorem toInt_fold_minsi {ι : Type} (s : Finset ι) (b : BitVec 32) (f : ι → BitVec 32) :
    (s.fold IntOp.minsi b f).toInt = s.fold min b.toInt fun i => (f i).toInt := by
  classical
  induction s using Finset.induction_on with
  | empty => rfl
  | insert i s hi h => rw [Finset.fold_insert hi, Finset.fold_insert hi, toInt_minsi, h]

theorem toInt_ofNat_small (n : ℕ) (h : n < 2 ^ 31) : (BitVec.ofNat 32 n).toInt = n := by
  rw [BitVec.toInt_eq_toNat_cond, BitVec.toNat_ofNat, Nat.mod_eq_of_lt (by omega)]
  split <;> omega

/-- The minimum over the elements not yet taken, then the least number among those at it: that is the first of them. -/
theorem extract {ι : Type} [Fintype ι] (x : ι → EReal) (num : ι → ℕ) (big : ℕ) (hnum : ∀ i, num i < big) (hbig : big < 2 ^ 31)
    (ex : ι → Prop) (hne : ∃ i, ¬ ex i) (mF : ι → EReal) (hT : ∀ i, ex i → mF i = ⊤) (hF : ∀ i, ¬ ex i → mF i = x i)
    (v : EReal) (hv : v = Finset.univ.fold min ⊤ mF) (mI : ι → BitVec 32)
    (hI : ∀ i, x i = v → ¬ ex i → mI i = BitVec.ofNat 32 (num i)) (hB : ∀ i, ¬ (x i = v ∧ ¬ ex i) → mI i = BitVec.ofNat 32 big)
    (u : BitVec 32) (hu : u = Finset.univ.fold IntOp.minsi 2147483647#32 mI) :
    ∃ i, ¬ ex i ∧ x i = v ∧ u = BitVec.ofNat 32 (num i) ∧ ∀ j, ¬ ex j → Before x num i j := by
  classical
  obtain ⟨i1, m1, l1⟩ := (Finset.univ.filter fun i => ¬ ex i).exists_min_image x
    (by obtain ⟨i, hi⟩ := hne; exact ⟨i, by simpa using hi⟩)
  have m1' : ¬ ex i1 := by simpa using m1
  have l1' : ∀ j, ¬ ex j → x i1 ≤ x j := fun j hj => l1 j (by simpa using hj)
  have v1 : x i1 = v := by
    refine le_antisymm ?_ ?_
    · rw [hv, Finset.le_fold_min]
      refine ⟨le_top, fun j _ => ?_⟩
      by_cases h : ex j
      · rw [hT j h]; exact le_top
      · rw [hF j h]; exact l1' j h
    · rw [hv, ← hF i1 m1', Finset.fold_min_le]
      exact .inr ⟨i1, Finset.mem_univ _, le_rfl⟩
  obtain ⟨i, m2, l2⟩ := (Finset.univ.filter fun i => x i = v ∧ ¬ ex i).exists_min_image num
    ⟨i1, by simpa using ⟨v1, m1'⟩⟩
  have m2' : x i = v ∧ ¬ ex i := by simpa using m2
  have l2' : ∀ j, x j = v → ¬ ex j → num i ≤ num j := fun j hj hj' => l2 j (by simpa using ⟨hj, hj'⟩)
  refine ⟨i, m2'.2, m2'.1, ?_, fun j hj => ?_⟩
  · apply BitVec.eq_of_toInt_eq
    have small (j : ι) : num j < 2 ^ 31 := (hnum j).trans hbig
    rw [hu, toInt_fold_minsi, toInt_ofNat_small _ (small i)]
    refine le_antisymm ?_ ?_
    · rw [Finset.fold_min_le]
      exact .inr ⟨i, Finset.mem_univ _, by rw [hI i m2'.1 m2'.2, toInt_ofNat_small _ (small i)]⟩
    · rw [Finset.le_fold_min]
      refine ⟨?_, fun j _ => ?_⟩
      · have := small i
        have e : (2147483647#32).toInt = 2147483647 := by decide
        rw [e]; omega
      · by_cases h : x j = v ∧ ¬ ex j
        · rw [hI j h.1 h.2, toInt_ofNat_small _ (small j)]; exact_mod_cast l2' j h.1 h.2
        · rw [hB j h, toInt_ofNat_small _ hbig]; exact_mod_cast (hnum i).le
  · rcases lt_or_eq_of_le (m2'.1 ▸ v1 ▸ l1' j hj : x i ≤ x j) with h | h
    · exact .inl h
    · exact .inr ⟨h, l2' j (h.symm.trans m2'.1) hj⟩

theorem ofNat_inj_small {m n : ℕ} (hm : m < 2 ^ 31) (hn : n < 2 ^ 31) : BitVec.ofNat 32 m = BitVec.ofNat 32 n ↔ m = n := by
  refine ⟨fun h => ?_, fun h => h ▸ rfl⟩
  have := congrArg BitVec.toNat h
  rwa [BitVec.toNat_ofNat, BitVec.toNat_ofNat, Nat.mod_eq_of_lt (by omega), Nat.mod_eq_of_lt (by omega)] at this

theorem select_true {α : Type} (a b : α) : Scalar.select (1#1) a b = a := rfl
theorem select_false {α : Type} (a b : α) : Scalar.select (0#1) a b = b := rfl
theorem cmpi_eq_of {a b : BitVec 32} (h : a = b) : IntOp.cmpi .eq a b = 1#1 := by subst h; simp [IntOp.cmpi]
theorem cmpi_eq_of_ne {a b : BitVec 32} (h : a ≠ b) : IntOp.cmpi .eq a b = 0#1 := by simp [IntOp.cmpi, beq_false_of_ne h]
theorem cmpi_ne_of {a b : BitVec 32} (h : a = b) : IntOp.cmpi .ne a b = 0#1 := by subst h; simp [IntOp.cmpi]
theorem cmpi_ne_of_ne {a b : BitVec 32} (h : a ≠ b) : IntOp.cmpi .ne a b = 1#1 := by simp [IntOp.cmpi, bne, beq_false_of_ne h]

/-- Three extractions, each over the elements the earlier ones left, give the first three. -/
theorem three {ι : Type} [Fintype ι] (x : ι → EReal) (num : ι → ℕ) (w : ι → BitVec 32) (hw : ∀ i, w i = BitVec.ofNat 32 (num i))
    (big : ℕ) (hnum : ∀ i, num i < big) (hbig : big < 2 ^ 31)
    (hne1 : ∃ _ : ι, True) (hne2 : ∀ a, ∃ i, num i ≠ a) (hne3 : ∀ a b, ∃ i, num i ≠ a ∧ num i ≠ b)
    (v1 v2 v3 : EReal) (u1 u2 u3 : BitVec 32)
    (hv1 : v1 = Finset.univ.fold min ⊤ x)
    (hu1 : u1 = Finset.univ.fold IntOp.minsi 2147483647#32 fun i =>
      Scalar.select (BitVec.ofBool (decide (x i = v1))) (w i) (BitVec.ofNat 32 big))
    (hv2 : v2 = Finset.univ.fold min ⊤ fun i => Scalar.select (IntOp.cmpi .eq (w i) u1) ⊤ (x i))
    (hu2 : u2 = Finset.univ.fold IntOp.minsi 2147483647#32 fun i =>
      Scalar.select (IntOp.andi (BitVec.ofBool (decide (x i = v2))) (IntOp.cmpi .ne (w i) u1)) (w i) (BitVec.ofNat 32 big))
    (hv3 : v3 = Finset.univ.fold min ⊤ fun i => Scalar.select (IntOp.ori (IntOp.cmpi .eq (w i) u1) (IntOp.cmpi .eq (w i) u2)) ⊤ (x i))
    (hu3 : u3 = Finset.univ.fold IntOp.minsi 2147483647#32 fun i =>
      Scalar.select (IntOp.andi (IntOp.andi (BitVec.ofBool (decide (x i = v3))) (IntOp.cmpi .ne (w i) u1)) (IntOp.cmpi .ne (w i) u2))
        (w i) (BitVec.ofNat 32 big)) :
    ∃ a b c, First3 x num a b c ∧ u1 = BitVec.ofNat 32 (num a) ∧ u2 = BitVec.ofNat 32 (num b) ∧ u3 = BitVec.ofNat 32 (num c)
      ∧ v1 = x a ∧ v2 = x b ∧ v3 = x c := by
  have small (i : ι) : num i < 2 ^ 31 := (hnum i).trans hbig
  have weq (i j : ι) : w i = BitVec.ofNat 32 (num j) ↔ num i = num j := by rw [hw, ofNat_inj_small (small i) (small j)]
  obtain ⟨a, -, xa, ua, ba⟩ := extract x num big hnum hbig (fun _ => False) (by obtain ⟨i, -⟩ := hne1; exact ⟨i, not_false⟩) x
    (fun _ h => h.elim) (fun _ _ => rfl) v1 hv1 _ (fun i h _ => by rw [decide_eq_true h]; exact hw i)
    (fun i h => by rw [decide_eq_false fun e => h ⟨e, not_false⟩]; rfl) u1 hu1
  subst ua
  obtain ⟨b, nb, xb, ub, bb⟩ := extract x num big hnum hbig (fun i => num i = num a) (hne2 _) _
    (fun i h => by rw [cmpi_eq_of ((weq i a).mpr h)]; rfl) (fun i h => by rw [cmpi_eq_of_ne fun e => h ((weq i a).mp e)]; rfl) v2 hv2 _
    (fun i h k => by rw [decide_eq_true h, cmpi_ne_of_ne fun e => k ((weq i a).mp e)]; exact hw i)
    (fun i h => by
      by_cases e : num i = num a
      · rw [cmpi_ne_of ((weq i a).mpr e)]
        by_cases e' : x i = v2
        · rw [decide_eq_true e']; rfl
        · rw [decide_eq_false e']; rfl
      · rw [decide_eq_false fun e' => h ⟨e', e⟩, cmpi_ne_of_ne fun e' => e ((weq i a).mp e')]; rfl) u2 hu2
  subst ub
  obtain ⟨c, nc, xc, uc, bc⟩ := extract x num big hnum hbig (fun i => num i = num a ∨ num i = num b)
    (by obtain ⟨i, h⟩ := hne3 (num a) (num b); exact ⟨i, not_or.mpr h⟩) _
    (fun i h => by
      rcases h with h | h
      · rw [cmpi_eq_of ((weq i a).mpr h)]
        by_cases e : w i = BitVec.ofNat 32 (num b)
        · rw [cmpi_eq_of e]; rfl
        · rw [cmpi_eq_of_ne e]; rfl
      · rw [cmpi_eq_of ((weq i b).mpr h)]
        by_cases e : w i = BitVec.ofNat 32 (num a)
        · rw [cmpi_eq_of e]; rfl
        · rw [cmpi_eq_of_ne e]; rfl)
    (fun i h => by
      rw [cmpi_eq_of_ne fun e => h (.inl ((weq i a).mp e)), cmpi_eq_of_ne fun e => h (.inr ((weq i b).mp e))]; rfl) v3 hv3 _
    (fun i h k => by
      rw [decide_eq_true h, cmpi_ne_of_ne fun e => k (.inl ((weq i a).mp e)), cmpi_ne_of_ne fun e => k (.inr ((weq i b).mp e))]
      exact hw i)
    (fun i h => by
      have two (z : BitVec 1) : z = 0#1 ∨ z = 1#1 := by revert z; decide
      by_cases e : num i = num a
      · rw [cmpi_ne_of ((weq i a).mpr e)]
        rcases two (BitVec.ofBool (decide (x i = v3))) with z | z <;> rcases two (IntOp.cmpi .ne (w i) (BitVec.ofNat 32 (num b))) with y | y <;>
          rw [z, y] <;> rfl
      · by_cases e' : num i = num b
        · rw [cmpi_ne_of ((weq i b).mpr e')]
          rcases two (BitVec.ofBool (decide (x i = v3))) with z | z <;> rcases two (IntOp.cmpi .ne (w i) (BitVec.ofNat 32 (num a))) with y | y <;>
            rw [z, y] <;> rfl
        · rw [decide_eq_false fun f => h ⟨f, not_or.mpr ⟨e, e'⟩⟩]
          rcases two (IntOp.cmpi .ne (w i) (BitVec.ofNat 32 (num a))) with z | z <;>
            rcases two (IntOp.cmpi .ne (w i) (BitVec.ofNat 32 (num b))) with y | y <;> rw [z, y] <;> rfl) u3 hu3
  exact ⟨a, b, c, ⟨fun j => ba j not_false, nb, fun j h => bb j h, fun h => nc (.inl h), fun h => nc (.inr h),
    fun j h k => bc j (not_or.mpr ⟨h, k⟩)⟩, rfl, rfl, uc, xa.symm, xb.symm, xc.symm⟩

end Cert.Proof

end
-- ==== Proof.Top3Value.lean ====
/-
  What the first TensorCore call leaves, read at a lane over the extended reals: the numbers of the three nearest rows and
  their weights.
-/
module

public import proofs.«01_k».proof.Proof.Top3Call
public import proofs.«01_k».proof.Proof.Least

@[expose] public section

noncomputable section

namespace Cert.Proof

open Idealize.ShloMosaic
open Cert.KernelIdeal Cert.KernelIdeal.Gen

variable {F : FTy → Type} [FloatOps F]

/-! ## The payloads, from a few operations -/

/-- The minimum down the chunks. -/
def min64 (x : FVec F S64x1024 .f32) : FVec F S1x1024 .f32 := shapeCast S1x1024 (multiReduction .minimumf [0] S1024 x 0x7F800000#32 reduces_S64x1024_S1024 (.inl rfl) rfl) shapeCasts_S1024_S1x1024
/-- The least number down the chunks. -/
def least64 (x : IVec S64x1024 32) : IVec S1x1024 32 := shapeCast S1x1024 (multiReductionI .minsi [0] S1024 x 2147483647#32 reduces_S64x1024_S1024 rfl) shapeCasts_S1024_S1x1024
/-- A row of numbers, repeated for each chunk. -/
def row64 {e : Type} (x : S1x1024.Idx → e) : S64x1024.Idx → e := broadcastTo S64x1024 x broadcasts_S1x1024_S64x1024
/-- The minimum down the candidates. -/
def min384 (x : FVec F S384x1024 .f32) : FVec F S1x1024 .f32 := shapeCast S1x1024 (multiReduction .minimumf [0] S1024 x 0x7F800000#32 reduces_S384x1024_S1024 (.inl rfl) rfl) shapeCasts_S1024_S1x1024
/-- The least number down the candidates. -/
def least384 (x : IVec S384x1024 32) : IVec S1x1024 32 := shapeCast S1x1024 (multiReductionI .minsi [0] S1024 x 2147483647#32 reduces_S384x1024_S1024 rfl) shapeCasts_S1024_S1x1024
/-- A row of numbers, repeated for each candidate. -/
def row384 {e : Type} (x : S1x1024.Idx → e) : S384x1024.Idx → e := broadcastTo S384x1024 x broadcasts_S1x1024_S384x1024
/-- The positive infinity of the masks. -/
def far (s : Shape) : FVec F s .f32 := broadcast s (Scalar.ofBits .f32 0x7F800000#32)
/-- One chunk's rows of distances. -/
def chunkRows (d : FVec F S64x128x1024 .f32) (c : IVec S1x1024 32) : FVec F S128x1024 .f32 :=
  multiReduction .minimumf [0] S128x1024 (select (broadcastTo S64x128x1024 (shapeCast S64x1x1024 (cmpi .eq (iota .tc S64x1x1024 32 [0] iota_S64x1x1024_d0_w32) (broadcastTo S64x1x1024 (shapeCast S1x1x1024 c shapeCasts_S1x1024_S1x1x1024) broadcasts_S1x1x1024_S64x1x1024)) shapeCasts_S64x1x1024_S64x1x1024) broadcasts_S64x1x1024_S64x128x1024) d (far S64x128x1024)) 0x7F800000#32 reduces_S64x128x1024_S128x1024 (.inl rfl) rfl
/-- One chunk's row numbers. -/
def chunkNums (c : IVec S1x1024 32) : IVec S128x1024 32 :=
  addi (broadcastTo S128x1024 (muli c (broadcast S1x1024 128#32)) broadcasts_S1x1024_S128x1024) (iota .tc S128x1024 32 [0] iota_S128x1024_d0_w32)

section
variable (x0 : Vec F S8192x4 .f32) (x1 : Vec F S4x1024 .f32) (x2 : Vec F S1x1024 .f32) (x3 : Vec F S8192x1 .f32)

theorem c1Of_eq : c1Of x0 x1 x2 x3 = least64 (select (cmpf .oeq (cmOf x0 x1 x2 x3) (row64 (min64 (cmOf x0 x1 x2 x3)))) chIota (broadcast S64x1024 64#32)) := rfl
/-- The second chunk minimum. -/
def v2Of : FVec F S1x1024 .f32 := min64 (select (cmpi .eq chIota (row64 (c1Of x0 x1 x2 x3))) (far S64x1024) (cmOf x0 x1 x2 x3))
theorem m2Of_eq : m2Of x0 x1 x2 x3 = select (andi (cmpf .oeq (cmOf x0 x1 x2 x3) (row64 (v2Of x0 x1 x2 x3))) (cmpi .ne chIota (row64 (c1Of x0 x1 x2 x3)))) chIota (broadcast S64x1024 64#32) := rfl
theorem c2Of_eq : c2Of x0 x1 x2 x3 = least64 (m2Of x0 x1 x2 x3) := rfl
/-- The third chunk minimum. -/
def v3Of : FVec F S1x1024 .f32 := min64 (select (ori (cmpi .eq chIota (row64 (c1Of x0 x1 x2 x3))) (cmpi .eq chIota (row64 (c2Of x0 x1 x2 x3)))) (far S64x1024) (cmOf x0 x1 x2 x3))
theorem c3Of_eq : c3Of x0 x1 x2 x3 = least64 (select (andi (andi (cmpf .oeq (cmOf x0 x1 x2 x3) (row64 (v3Of x0 x1 x2 x3))) (cmpi .ne chIota (row64 (c1Of x0 x1 x2 x3)))) (cmpi .ne chIota (row64 (c2Of x0 x1 x2 x3)))) chIota (broadcast S64x1024 64#32)) := rfl
theorem candOf_eq : candOf x0 x1 x2 x3 = concatenate S384x1024 0 [⟨S128x1024, chunkRows (d3Of x0 x1 x2 x3) (c1Of x0 x1 x2 x3)⟩, ⟨S128x1024, chunkRows (d3Of x0 x1 x2 x3) (c2Of x0 x1 x2 x3)⟩, ⟨S128x1024, chunkRows (d3Of x0 x1 x2 x3) (c3Of x0 x1 x2 x3)⟩] concatenates_S128x1024_S128x1024_S128x1024_S384x1024_d0 := rfl
end

section
variable (c1 c2 c3 : IVec S1x1024 32) (cand : FVec F S384x1024 .f32)

theorem pay10_eq : k0_pay10 c1 c2 c3 = concatenate S384x1024 0 [⟨S128x1024, chunkNums c1⟩, ⟨S128x1024, chunkNums c2⟩, ⟨S128x1024, chunkNums c3⟩] concatenates_S128x1024_S128x1024_S128x1024_S384x1024_d0 := rfl
theorem pay11_eq : k0_pay11 cand = min384 cand := rfl
theorem pay12_eq : k0_pay12 c1 c2 c3 cand = least384 (select (cmpf .oeq cand (row384 (k0_pay11 cand))) (k0_pay10 c1 c2 c3) (broadcast S384x1024 8192#32)) := rfl
theorem pay13_eq : k0_pay13 c1 c2 c3 cand = min384 (select (cmpi .eq (k0_pay10 c1 c2 c3) (row384 (k0_pay12 c1 c2 c3 cand))) (far S384x1024) cand) := rfl
theorem pay14_eq : k0_pay14 c1 c2 c3 cand = least384 (select (andi (cmpf .oeq cand (row384 (k0_pay13 c1 c2 c3 cand))) (cmpi .ne (k0_pay10 c1 c2 c3) (row384 (k0_pay12 c1 c2 c3 cand)))) (k0_pay10 c1 c2 c3) (broadcast S384x1024 8192#32)) := rfl
theorem pay15_eq : k0_pay15 c1 c2 c3 cand = min384 (select (ori (cmpi .eq (k0_pay10 c1 c2 c3) (row384 (k0_pay12 c1 c2 c3 cand))) (cmpi .eq (k0_pay10 c1 c2 c3) (row384 (k0_pay14 c1 c2 c3 cand)))) (far S384x1024) cand) := rfl
/-- The third row's number. -/
def i3Of : IVec S1x1024 32 := least384 (select (andi (andi (cmpf .oeq cand (row384 (k0_pay15 c1 c2 c3 cand))) (cmpi .ne (k0_pay10 c1 c2 c3) (row384 (k0_pay12 c1 c2 c3 cand)))) (cmpi .ne (k0_pay10 c1 c2 c3) (row384 (k0_pay14 c1 c2 c3 cand)))) (k0_pay10 c1 c2 c3) (broadcast S384x1024 8192#32))
theorem pay1_eq : k0_pay1 (k0_pay10 c1 c2 c3) (k0_pay12 c1 c2 c3 cand) (k0_pay14 c1 c2 c3 cand) (k0_pay16 c1 c2 c3 cand)
    = concatenate S4x1024 0 [⟨S1x1024, k0_pay12 c1 c2 c3 cand⟩, ⟨S1x1024, k0_pay14 c1 c2 c3 cand⟩, ⟨S1x1024, i3Of c1 c2 c3 cand⟩, ⟨S1x1024, broadcast S1x1024 0#32⟩] concatenates_S1x1024_S1x1024_S1x1024_S1x1024_S4x1024_d0 := rfl
end

/-! ## Their readings over the extended reals -/

theorem top_bits : Ideal.ofBits .f32 0x7F800000#32 = ⊤ := by simp [Ideal.ofBits, Ideal.ieee]

theorem min64_at (x : FVec Ideal S64x1024 .f32) (l : Fin 1024) : min64 x (ix2 0 l) = Finset.univ.fold min ⊤ fun k : Fin 64 => x (ix2 k l) := by
  rw [← top_bits]; pointwise [min64]
theorem least64_at (x : IVec S64x1024 32) (l : Fin 1024) : least64 x (ix2 0 l) = Finset.univ.fold IntOp.minsi 2147483647#32 fun k : Fin 64 => x (ix2 k l) := by
  pointwise [least64]
theorem row64_at {e : Type} (x : S1x1024.Idx → e) (k : Fin 64) (l : Fin 1024) : row64 x (ix2 k l) = x (ix2 0 l) := by pointwise [row64]
theorem min384_at (x : FVec Ideal S384x1024 .f32) (l : Fin 1024) : min384 x (ix2 0 l) = Finset.univ.fold min ⊤ fun k : Fin 384 => x (ix2 k l) := by
  rw [← top_bits]; pointwise [min384]
theorem least384_at (x : IVec S384x1024 32) (l : Fin 1024) : least384 x (ix2 0 l) = Finset.univ.fold IntOp.minsi 2147483647#32 fun k : Fin 384 => x (ix2 k l) := by
  pointwise [least384]
theorem row384_at {e : Type} (x : S1x1024.Idx → e) (k : Fin 384) (l : Fin 1024) : row384 x (ix2 k l) = x (ix2 0 l) := by pointwise [row384]
theorem far_at (s : Shape) (i : s.Idx) : far (F := Ideal) s i = ⊤ := top_bits
theorem chIota_at (k : Fin 64) (l : Fin 1024) : chIota (ix2 k l) = BitVec.ofNat 32 k.val := by pointwise [chIota]
theorem oeq_at {s : Shape} (x y : FVec Ideal s .f32) (i : s.Idx) : cmpf .oeq x y i = BitVec.ofBool (decide (x i = y i)) := rfl

theorem chunkNums_at (c : IVec S1x1024 32) (r : Fin 128) (l : Fin 1024) (n : Fin 64) (h : c (ix2 0 l) = BitVec.ofNat 32 n.val) :
    chunkNums c (ix2 r l) = BitVec.ofNat 32 (n.val * 128 + r.val) := by
  have e : chunkNums c (ix2 r l) = IntOp.addi (IntOp.muli (c (ix2 0 l)) 128#32) (BitVec.ofNat 32 r.val) := by pointwise [chunkNums]
  rw [e, h]
  show BitVec.ofNat 32 n.val * BitVec.ofNat 32 128 + BitVec.ofNat 32 r.val = _
  rw [BitVec.ofNat_mul_ofNat, BitVec.ofNat_add_ofNat]

theorem chunkRows_at (d : FVec Ideal S64x128x1024 .f32) (c : IVec S1x1024 32) (r : Fin 128) (l : Fin 1024) (n : Fin 64)
    (h : c (ix2 0 l) = BitVec.ofNat 32 n.val) : chunkRows d c (ix2 r l) = d (ix3 n r l) := by
  have e : chunkRows d c (ix2 r l) = Finset.univ.fold min (Ideal.ofBits .f32 0x7F800000#32) fun k : Fin 64 =>
      Scalar.select (IntOp.cmpi .eq (BitVec.ofNat 32 k.val) (c (ix2 0 l))) (d (ix3 k r l)) (far (F := Ideal) S64x128x1024 (ix3 k r l)) := by
    pointwise [chunkRows]
  rw [e, h, top_bits]
  refine le_antisymm ?_ ?_
  · rw [Finset.fold_min_le]
    exact .inr ⟨n, Finset.mem_univ _, by rw [cmpi_eq_of rfl]; exact le_rfl⟩
  · rw [Finset.le_fold_min]
    refine ⟨le_top, fun k _ => ?_⟩
    by_cases q : k = n
    · subst q; rw [cmpi_eq_of rfl]; exact le_rfl
    · rw [cmpi_eq_of_ne fun z => q (Fin.ext ((ofNat_inj_small (by omega) (by omega)).mp z)), far_at]; exact le_top

end Cert.Proof

end
-- ==== Proof.Top3Block.lean ====
/-
  The first TensorCore call's two blocks at a lane: the first three rows by distance, and their weights.
-/
module

public import proofs.«01_k».proof.Proof.Top3Value

@[expose] public section

noncomputable section

namespace Cert.Proof

open Idealize.ShloMosaic
open Cert.KernelIdeal Cert.KernelIdeal.Gen

/-- A clamped squared distance, from the two squared norms and the inner product. -/
def clampedDist (t q s : EReal) : EReal := max (t + q - Ideal.ofBits .f32 0x40000000#32 * s) 0
/-- The inverse of a distance, kept off zero. -/
def invDist (d : EReal) : EReal := Ideal.div 1 (d + Ideal.ofBits .f32 0x322BCC77#32)
/-- The weight of the distance `p` among three. -/
def weight (a b c p : EReal) : EReal := Ideal.div (invDist p) (invDist a + invDist b + invDist c)

section
variable (x0 : Vec Ideal S8192x4 .f32) (x1 : Vec Ideal S4x1024 .f32) (x2 : Vec Ideal S1x1024 .f32) (x3 : Vec Ideal S8192x1 .f32)

/-- The distance of row `j` from the point at lane `l`. -/
def blockDist (l : Fin 1024) (j : Fin 8192) : EReal :=
  clampedDist (x2 (ix2 0 l)) (x3 (ix2 j 0)) (∑ k : Fin 4, x0 (ix2 j k) * x1 (ix2 k l))

theorem zeros2 : (![0, 0] : Fin 2 → Nat) = fun _ => 0 := by funext a; fin_cases a <;> rfl
theorem ld_vox : View.ld x0 rVox = x0 := View.ld_unit_zero zeros2 _ _
theorem ld_tgt : View.ld x1 rTgt = x1 := View.ld_unit_zero zeros2 _ _
theorem ld_tn : View.ld x2 rTn = x2 := View.ld_unit_zero zeros2 _ _
theorem ld_vn : View.ld x3 rVn = x3 := View.ld_unit_zero zeros2 _ _

theorem d3Of_at (c : Fin 64) (r : Fin 128) (l : Fin 1024) :
    d3Of x0 x1 x2 x3 (ix3 c r l) = blockDist x0 x1 x2 x3 l ⟨c.val * 128 + r.val, by omega⟩ := by
  unfold d3Of
  rw [ld_vox, ld_tgt, ld_tn, ld_vn]
  pointwise [k0_pay3, blockDist, clampedDist]

theorem cmOf_at (c : Fin 64) (l : Fin 1024) :
    cmOf x0 x1 x2 x3 (ix2 c l) = Finset.univ.fold min ⊤ fun r : Fin 128 => d3Of x0 x1 x2 x3 (ix3 c r l) := by
  rw [← top_bits]
  show k0_pay4 (View.ld x0 rVox) (View.ld x1 rTgt) (View.ld x2 rTn) (View.ld x3 rVn) (ix2 c l) = Finset.univ.fold min _ fun r : Fin 128 => k0_pay3 (View.ld x0 rVox) (View.ld x1 rTgt) (View.ld x2 rTn) (View.ld x3 rVn) (ix3 c r l)
  pointwise [k0_pay4]

theorem cmOf_le (l : Fin 1024) (c : Fin 64) (j : Fin 8192) (h : j.val / 128 = c.val) :
    cmOf x0 x1 x2 x3 (ix2 c l) ≤ blockDist x0 x1 x2 x3 l j := by
  rw [cmOf_at, Finset.fold_min_le]
  refine .inr ⟨⟨j.val % 128, Nat.mod_lt _ (by omega)⟩, Finset.mem_univ _, ?_⟩
  rw [d3Of_at]
  refine le_of_eq (congrArg _ (Fin.ext ?_))
  show c.val * 128 + j.val % 128 = j.val
  omega

theorem cmOf_mem (l : Fin 1024) (c : Fin 64) : ∃ j : Fin 8192, j.val / 128 = c.val ∧ blockDist x0 x1 x2 x3 l j = cmOf x0 x1 x2 x3 (ix2 c l) := by
  obtain ⟨r, -, hr⟩ := Finset.exists_min_image (Finset.univ : Finset (Fin 128)) (fun r => d3Of x0 x1 x2 x3 (ix3 c r l)) ⟨0, Finset.mem_univ _⟩
  refine ⟨⟨c.val * 128 + r.val, by omega⟩, by show (c.val * 128 + r.val) / 128 = _; omega, ?_⟩
  rw [← d3Of_at, cmOf_at]
  refine le_antisymm ?_ ?_
  · rw [Finset.le_fold_min]; exact ⟨le_top, fun k hk => hr k hk⟩
  · rw [Finset.fold_min_le]; exact .inr ⟨r, Finset.mem_univ _, le_rfl⟩

section
variable {s : Shape} (x y : FVec Ideal s .f32) (w p q b : IVec s 32) (i : s.Idx)
theorem pick1_at : select (cmpf .oeq x y) w b i = Scalar.select (BitVec.ofBool (decide (x i = y i))) (w i) (b i) := rfl
theorem pick2_at : select (andi (cmpf .oeq x y) (cmpi .ne w p)) w b i
    = Scalar.select (IntOp.andi (BitVec.ofBool (decide (x i = y i))) (IntOp.cmpi .ne (w i) (p i))) (w i) (b i) := rfl
theorem pick3_at : select (andi (andi (cmpf .oeq x y) (cmpi .ne w p)) (cmpi .ne w q)) w b i
    = Scalar.select (IntOp.andi (IntOp.andi (BitVec.ofBool (decide (x i = y i))) (IntOp.cmpi .ne (w i) (p i))) (IntOp.cmpi .ne (w i) (q i))) (w i) (b i) := rfl
theorem mask1_at : select (cmpi .eq w p) x y i = Scalar.select (IntOp.cmpi .eq (w i) (p i)) (x i) (y i) := rfl
theorem mask2_at : select (ori (cmpi .eq w p) (cmpi .eq w q)) x y i = Scalar.select (IntOp.ori (IntOp.cmpi .eq (w i) (p i)) (IntOp.cmpi .eq (w i) (q i))) (x i) (y i) := rfl
theorem fill_at (n : BitVec 32) : broadcast s n i = n := rfl
end

/-- The three chosen chunks are the first three by minimum. -/
theorem chunks_first3 (l : Fin 1024) : ∃ a b c : Fin 64, First3 (fun k => cmOf x0 x1 x2 x3 (ix2 k l)) Fin.val a b c
    ∧ c1Of x0 x1 x2 x3 (ix2 0 l) = BitVec.ofNat 32 a.val ∧ c2Of x0 x1 x2 x3 (ix2 0 l) = BitVec.ofNat 32 b.val
    ∧ c3Of x0 x1 x2 x3 (ix2 0 l) = BitVec.ofNat 32 c.val := by
  obtain ⟨a, b, c, h, e1, e2, e3, -⟩ := three (fun k : Fin 64 => cmOf x0 x1 x2 x3 (ix2 k l)) Fin.val (fun k => chIota (ix2 k l))
    (fun k => chIota_at k l) 64 (fun k => k.isLt) (by norm_num) ⟨0, trivial⟩
    (fun a => by
      by_cases h : a = 0
      · exact ⟨1, by subst h; decide⟩
      · exact ⟨0, fun z => h z.symm⟩)
    (fun a b => by
      by_cases h : 0 ≠ a ∧ 0 ≠ b
      · exact ⟨0, h⟩
      · by_cases h' : 1 ≠ a ∧ 1 ≠ b
        · exact ⟨1, h'⟩
        · exact ⟨2, by show 2 ≠ a ∧ 2 ≠ b; omega⟩)
    (min64 (cmOf x0 x1 x2 x3) (ix2 0 l)) (v2Of x0 x1 x2 x3 (ix2 0 l)) (v3Of x0 x1 x2 x3 (ix2 0 l))
    (c1Of x0 x1 x2 x3 (ix2 0 l)) (c2Of x0 x1 x2 x3 (ix2 0 l)) (c3Of x0 x1 x2 x3 (ix2 0 l))
    (min64_at _ l)
    (by rw [c1Of_eq, least64_at]; refine Finset.fold_congr fun k _ => ?_; rw [pick1_at, row64_at, fill_at])
    (by rw [v2Of, min64_at]; refine Finset.fold_congr fun k _ => ?_; rw [mask1_at, row64_at, far_at])
    (by rw [c2Of_eq, least64_at]; refine Finset.fold_congr fun k _ => ?_; rw [m2Of_eq]
        rw [pick2_at, row64_at, row64_at, fill_at])
    (by rw [v3Of, min64_at]; refine Finset.fold_congr fun k _ => ?_
        rw [mask2_at, row64_at, row64_at, far_at])
    (by rw [c3Of_eq, least64_at]; refine Finset.fold_congr fun k _ => ?_
        rw [pick3_at, row64_at, row64_at, row64_at, fill_at])
  exact ⟨a, b, c, h, e1, e2, e3⟩

/-- The row that candidate `i` is, from the three chunks. -/
def slot (a b c : Fin 64) (i : Fin 384) : Fin 8192 :=
  if i.val < 128 then ⟨a.val * 128 + i.val % 128, by omega⟩
  else if i.val < 256 then ⟨b.val * 128 + i.val % 128, by omega⟩ else ⟨c.val * 128 + i.val % 128, by omega⟩

theorem cat384_at {e : Type} (p q r : S128x1024.Idx → e) (i : Fin 384) (l : Fin 1024) :
    concatenate S384x1024 0 [⟨S128x1024, p⟩, ⟨S128x1024, q⟩, ⟨S128x1024, r⟩] concatenates_S128x1024_S128x1024_S128x1024_S384x1024_d0 (ix2 i l)
      = if i.val < 128 then p (ix2 ⟨i.val % 128, Nat.mod_lt _ (by omega)⟩ l)
        else if i.val < 256 then q (ix2 ⟨i.val % 128, Nat.mod_lt _ (by omega)⟩ l) else r (ix2 ⟨i.val % 128, Nat.mod_lt _ (by omega)⟩ l) := by
  have h : concatenate S384x1024 0 [⟨S128x1024, p⟩, ⟨S128x1024, q⟩, ⟨S128x1024, r⟩] concatenates_S128x1024_S128x1024_S128x1024_S384x1024_d0 (ix2 i l)
      = if h : i.val < 128 then p (ix2 ⟨i.val, h⟩ l)
        else if h' : i.val - 128 < 128 then q (ix2 ⟨i.val - 128, h'⟩ l) else r (ix2 ⟨i.val - 128 - 128, by omega⟩ l) := by pointwise []
  rw [h]
  split
  · congr 2; exact Fin.ext (by show i.val = i.val % 128; omega)
  · split
    · rw [if_pos (by omega)]; congr 2; exact Fin.ext (by show i.val - 128 = i.val % 128; omega)
    · rw [if_neg (by omega)]; congr 2; exact Fin.ext (by show i.val - 128 - 128 = i.val % 128; omega)

theorem candOf_at (l : Fin 1024) (a b c : Fin 64) (e1 : c1Of x0 x1 x2 x3 (ix2 0 l) = BitVec.ofNat 32 a.val)
    (e2 : c2Of x0 x1 x2 x3 (ix2 0 l) = BitVec.ofNat 32 b.val) (e3 : c3Of x0 x1 x2 x3 (ix2 0 l) = BitVec.ofNat 32 c.val) (i : Fin 384) :
    candOf x0 x1 x2 x3 (ix2 i l) = blockDist x0 x1 x2 x3 l (slot a b c i) := by
  rw [candOf_eq, cat384_at, chunkRows_at _ _ _ _ _ e1, chunkRows_at _ _ _ _ _ e2, chunkRows_at _ _ _ _ _ e3, d3Of_at, d3Of_at, d3Of_at]
  unfold slot
  split
  · rfl
  · split <;> rfl

theorem nums_at (l : Fin 1024) (a b c : Fin 64) (c1 c2 c3 : IVec S1x1024 32) (e1 : c1 (ix2 0 l) = BitVec.ofNat 32 a.val)
    (e2 : c2 (ix2 0 l) = BitVec.ofNat 32 b.val) (e3 : c3 (ix2 0 l) = BitVec.ofNat 32 c.val) (i : Fin 384) :
    k0_pay10 c1 c2 c3 (ix2 i l) = BitVec.ofNat 32 (slot a b c i).val := by
  rw [pay10_eq, cat384_at, chunkNums_at _ _ _ _ e1, chunkNums_at _ _ _ _ e2, chunkNums_at _ _ _ _ e3]
  unfold slot
  split
  · rfl
  · split <;> rfl

/-- The three extractions over the candidates give their first three. -/
theorem cands_first3 (l : Fin 1024) (x : Fin 8192 → EReal) (e : Fin 384 → Fin 8192) (c1 c2 c3 : IVec S1x1024 32) (cand : FVec Ideal S384x1024 .f32)
    (hn : ∀ i, k0_pay10 c1 c2 c3 (ix2 i l) = BitVec.ofNat 32 (e i).val) (hx : ∀ i, cand (ix2 i l) = x (e i))
    (n01 : (e 0).val ≠ (e 1).val) (n02 : (e 0).val ≠ (e 2).val) (n12 : (e 1).val ≠ (e 2).val) :
    ∃ a b c : Fin 384, First3 (fun i => x (e i)) (fun i => (e i).val) a b c
      ∧ k0_pay12 c1 c2 c3 cand (ix2 0 l) = BitVec.ofNat 32 (e a).val ∧ k0_pay14 c1 c2 c3 cand (ix2 0 l) = BitVec.ofNat 32 (e b).val
      ∧ i3Of c1 c2 c3 cand (ix2 0 l) = BitVec.ofNat 32 (e c).val
      ∧ k0_pay11 cand (ix2 0 l) = x (e a) ∧ k0_pay13 c1 c2 c3 cand (ix2 0 l) = x (e b) ∧ k0_pay15 c1 c2 c3 cand (ix2 0 l) = x (e c) := by
  obtain ⟨a, b, c, h, r⟩ := three (fun i : Fin 384 => cand (ix2 i l)) (fun i => (e i).val) (fun i => k0_pay10 c1 c2 c3 (ix2 i l)) hn
    8192 (fun i => (e i).isLt) (by norm_num) ⟨0, trivial⟩
    (fun a => by
      by_cases h : (e 0).val = a
      · exact ⟨1, fun z => n01 (h.trans z.symm)⟩
      · exact ⟨0, h⟩)
    (fun a b => by
      by_cases h : (e 0).val ≠ a ∧ (e 0).val ≠ b
      · exact ⟨0, h⟩
      · by_cases h' : (e 1).val ≠ a ∧ (e 1).val ≠ b
        · exact ⟨1, h'⟩
        · exact ⟨2, by show (e 2).val ≠ a ∧ (e 2).val ≠ b; omega⟩)
    (k0_pay11 cand (ix2 0 l)) (k0_pay13 c1 c2 c3 cand (ix2 0 l)) (k0_pay15 c1 c2 c3 cand (ix2 0 l))
    (k0_pay12 c1 c2 c3 cand (ix2 0 l)) (k0_pay14 c1 c2 c3 cand (ix2 0 l)) (i3Of c1 c2 c3 cand (ix2 0 l))
    (by rw [pay11_eq, min384_at])
    (by rw [pay12_eq, least384_at]; refine Finset.fold_congr fun k _ => ?_; rw [pick1_at, row384_at, fill_at])
    (by rw [pay13_eq, min384_at]; refine Finset.fold_congr fun k _ => ?_; rw [mask1_at, row384_at, far_at])
    (by rw [pay14_eq, least384_at]; refine Finset.fold_congr fun k _ => ?_
        rw [pick2_at, row384_at, row384_at, fill_at])
    (by rw [pay15_eq, min384_at]; refine Finset.fold_congr fun k _ => ?_
        rw [mask2_at, row384_at, row384_at, far_at])
    (by rw [i3Of, least384_at]; refine Finset.fold_congr fun k _ => ?_
        rw [pick3_at, row384_at, row384_at, row384_at, fill_at])
  have hx' : (fun i : Fin 384 => cand (ix2 i l)) = fun i => x (e i) := funext hx
  rw [hx'] at h
  rw [hx a, hx b, hx c] at r
  exact ⟨a, b, c, h, r⟩

theorem slot_chunk (a b c : Fin 64) (i : Fin 384) : (slot a b c i).val / 128 = a.val ∨ (slot a b c i).val / 128 = b.val ∨ (slot a b c i).val / 128 = c.val := by
  unfold slot
  split
  · exact .inl (by show (a.val * 128 + i.val % 128) / 128 = _; omega)
  · split
    · exact .inr (.inl (by show (b.val * 128 + i.val % 128) / 128 = _; omega))
    · exact .inr (.inr (by show (c.val * 128 + i.val % 128) / 128 = _; omega))

theorem slot_onto (a b c : Fin 64) (j : Fin 8192) (h : j.val / 128 = a.val ∨ j.val / 128 = b.val ∨ j.val / 128 = c.val) : ∃ i, slot a b c i = j := by
  have hj := j.isLt
  rcases h with h | h | h
  · refine ⟨⟨j.val % 128, by omega⟩, ?_⟩
    unfold slot
    rw [if_pos (by show j.val % 128 < 128; omega)]
    exact Fin.ext (by show a.val * 128 + j.val % 128 % 128 = j.val; omega)
  · refine ⟨⟨128 + j.val % 128, by omega⟩, ?_⟩
    unfold slot
    rw [if_neg (by show ¬ 128 + j.val % 128 < 128; omega), if_pos (by show 128 + j.val % 128 < 256; omega)]
    exact Fin.ext (by show b.val * 128 + (128 + j.val % 128) % 128 = j.val; omega)
  · refine ⟨⟨256 + j.val % 128, by omega⟩, ?_⟩
    unfold slot
    rw [if_neg (by show ¬ 256 + j.val % 128 < 128; omega), if_neg (by show ¬ 256 + j.val % 128 < 256; omega)]
    exact Fin.ext (by show c.val * 128 + (256 + j.val % 128) % 128 = j.val; omega)

theorem slot_first (a b c : Fin 64) (i : Fin 384) (h : i.val < 128) : (slot a b c i).val = a.val * 128 + i.val % 128 := by
  unfold slot; rw [if_pos h]

section
variable {e : Type} (p q r s : S1x1024.Idx → e) (l : Fin 1024)
theorem cat4_0 : concatenate S4x1024 0 [⟨S1x1024, p⟩, ⟨S1x1024, q⟩, ⟨S1x1024, r⟩, ⟨S1x1024, s⟩] concatenates_S1x1024_S1x1024_S1x1024_S1x1024_S4x1024_d0 (ix2 0 l) = p (ix2 0 l) := by pointwise []
theorem cat4_1 : concatenate S4x1024 0 [⟨S1x1024, p⟩, ⟨S1x1024, q⟩, ⟨S1x1024, r⟩, ⟨S1x1024, s⟩] concatenates_S1x1024_S1x1024_S1x1024_S1x1024_S4x1024_d0 (ix2 1 l) = q (ix2 0 l) := by pointwise []
theorem cat4_2 : concatenate S4x1024 0 [⟨S1x1024, p⟩, ⟨S1x1024, q⟩, ⟨S1x1024, r⟩, ⟨S1x1024, s⟩] concatenates_S1x1024_S1x1024_S1x1024_S1x1024_S4x1024_d0 (ix2 2 l) = r (ix2 0 l) := by pointwise []
end

section
variable (p q r : FVec Ideal S1x1024 .f32) (l : Fin 1024)
theorem pay2_0 : k0_pay2 p q r (ix2 0 l) = weight (p (ix2 0 l)) (q (ix2 0 l)) (r (ix2 0 l)) (p (ix2 0 l)) := by pointwise [k0_pay2, weight, invDist]
theorem pay2_1 : k0_pay2 p q r (ix2 1 l) = weight (p (ix2 0 l)) (q (ix2 0 l)) (r (ix2 0 l)) (q (ix2 0 l)) := by pointwise [k0_pay2, weight, invDist]
theorem pay2_2 : k0_pay2 p q r (ix2 2 l) = weight (p (ix2 0 l)) (q (ix2 0 l)) (r (ix2 0 l)) (r (ix2 0 l)) := by pointwise [k0_pay2, weight, invDist]
end

/-- The call's two blocks at lane `l`: the numbers of the first three rows by distance from the point, and their weights. -/
theorem top3_block (l : Fin 1024) : ∃ a b c : Fin 8192, First3 (blockDist x0 x1 x2 x3 l) Fin.val a b c
    ∧ top3Out4 x0 x1 x2 x3 (ix2 0 l) = BitVec.ofNat 32 a.val ∧ top3Out4 x0 x1 x2 x3 (ix2 1 l) = BitVec.ofNat 32 b.val
    ∧ top3Out4 x0 x1 x2 x3 (ix2 2 l) = BitVec.ofNat 32 c.val
    ∧ top3Out5 x0 x1 x2 x3 (ix2 0 l) = weight (blockDist x0 x1 x2 x3 l a) (blockDist x0 x1 x2 x3 l b) (blockDist x0 x1 x2 x3 l c) (blockDist x0 x1 x2 x3 l a)
    ∧ top3Out5 x0 x1 x2 x3 (ix2 1 l) = weight (blockDist x0 x1 x2 x3 l a) (blockDist x0 x1 x2 x3 l b) (blockDist x0 x1 x2 x3 l c) (blockDist x0 x1 x2 x3 l b)
    ∧ top3Out5 x0 x1 x2 x3 (ix2 2 l) = weight (blockDist x0 x1 x2 x3 l a) (blockDist x0 x1 x2 x3 l b) (blockDist x0 x1 x2 x3 l c) (blockDist x0 x1 x2 x3 l c) := by
  obtain ⟨p, q, r, hc, e1, e2, e3⟩ := chunks_first3 x0 x1 x2 x3 l
  have s0 := slot_first p q r 0 (by decide)
  have s1 := slot_first p q r 1 (by decide)
  have s2 := slot_first p q r 2 (by decide)
  have m0 : (0 : Fin 384).val % 128 = 0 := rfl
  have m1 : (1 : Fin 384).val % 128 = 1 := rfl
  have m2 : (2 : Fin 384).val % 128 = 2 := rfl
  obtain ⟨a, b, c, h, f1, f2, f3, g1, g2, g3⟩ := cands_first3 l (blockDist x0 x1 x2 x3 l) (slot p q r) (c1Of x0 x1 x2 x3) (c2Of x0 x1 x2 x3)
    (c3Of x0 x1 x2 x3) (candOf x0 x1 x2 x3) (nums_at l p q r _ _ _ e1 e2 e3) (candOf_at x0 x1 x2 x3 l p q r e1 e2 e3)
    (by rw [s0, s1, m0, m1]; omega) (by rw [s0, s2, m0, m2]; omega) (by rw [s1, s2, m1, m2]; omega)
  have o4 : top3Out4 x0 x1 x2 x3 = k0_pay1 (k0_pay10 (c1Of x0 x1 x2 x3) (c2Of x0 x1 x2 x3) (c3Of x0 x1 x2 x3))
      (k0_pay12 (c1Of x0 x1 x2 x3) (c2Of x0 x1 x2 x3) (c3Of x0 x1 x2 x3) (candOf x0 x1 x2 x3))
      (k0_pay14 (c1Of x0 x1 x2 x3) (c2Of x0 x1 x2 x3) (c3Of x0 x1 x2 x3) (candOf x0 x1 x2 x3))
      (k0_pay16 (c1Of x0 x1 x2 x3) (c2Of x0 x1 x2 x3) (c3Of x0 x1 x2 x3) (candOf x0 x1 x2 x3)) := View.canon_unit_zero zeros2 _ _
  have o5 : top3Out5 x0 x1 x2 x3 = k0_pay2 (k0_pay11 (candOf x0 x1 x2 x3))
      (k0_pay13 (c1Of x0 x1 x2 x3) (c2Of x0 x1 x2 x3) (c3Of x0 x1 x2 x3) (candOf x0 x1 x2 x3))
      (k0_pay15 (c1Of x0 x1 x2 x3) (c2Of x0 x1 x2 x3) (c3Of x0 x1 x2 x3) (candOf x0 x1 x2 x3)) := View.canon_unit_zero zeros2 _ _
  refine ⟨slot p q r a, slot p q r b, slot p q r c, ?_, ?_, ?_, ?_, ?_, ?_, ?_⟩
  · refine First3.of_chunks _ (fun k => cmOf x0 x1 x2 x3 (ix2 k l)) (cmOf_le x0 x1 x2 x3 l) (cmOf_mem x0 x1 x2 x3 l) p q r hc _ _ _
      (fun j => j.val / 128 = p.val ∨ j.val / 128 = q.val ∨ j.val / 128 = r.val) (fun _ => Iff.rfl) ?_
      (fun z => h.ne1 (congrArg Fin.val z)) ?_ (fun z => h.ne2 (congrArg Fin.val z)) (fun z => h.ne3 (congrArg Fin.val z)) ?_
    · intro j hj
      obtain ⟨i, rfl⟩ := slot_onto p q r j hj
      exact h.one i
    · intro j hj n1
      obtain ⟨i, rfl⟩ := slot_onto p q r j hj
      exact h.two i fun z => n1 (Fin.ext z)
    · intro j hj n1 n2
      obtain ⟨i, rfl⟩ := slot_onto p q r j hj
      exact h.three i (fun z => n1 (Fin.ext z)) fun z => n2 (Fin.ext z)
  · rw [o4, pay1_eq, cat4_0, f1]
  · rw [o4, pay1_eq, cat4_1, f2]
  · rw [o4, pay1_eq, cat4_2, f3]
  · rw [o5, pay2_0, g1, g2, g3]
  · rw [o5, pay2_1, g1, g2, g3]
  · rw [o5, pay2_2, g1, g2, g3]

end

end Cert.Proof

end
-- ==== Proof.Arrays.lean ====
/-
  The two TensorCore calls' blocks and arrays at an index.
-/
module

public import proofs.«01_k».proof.Proof.Top3Block
public import proofs.«01_k».proof.Proof.Steps
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open Idealize.ShloMosaic.Pipeline (Dat Window BodyObligation)

variable {F : FTy → Type} [FloatOps F]

section
variable (V : (c : Dev nD) → (b : Ref sig .tc) → Buf (Elt F) ((c : Thread nD τ).loc b)) (O : Dev nD → CellTallies nD τ sig (HIx 1)) (B : Dev nD → Set (SemLoc sig × HIx 1))

/-! ## The index maps -/

theorem idx0_0 (t : Fin cfg0.N) : win0_0.index t 0 = 0 ∧ win0_0.index t 1 = 0 := by revert t; decide +kernel
theorem idx0_1 (t : Fin cfg0.N) : win0_1.index t 0 = 0 ∧ win0_1.index t 1 = t.val := by revert t; decide +kernel
theorem idx0_2 (t : Fin cfg0.N) : win0_2.index t 0 = 0 ∧ win0_2.index t 1 = t.val := by revert t; decide +kernel
theorem idx0_3 (t : Fin cfg0.N) : win0_3.index t 0 = 0 ∧ win0_3.index t 1 = 0 := by revert t; decide +kernel
theorem idx0_4 (t : Fin cfg0.N) : win0_4.index t 0 = 0 ∧ win0_4.index t 1 = t.val := by revert t; decide +kernel
theorem idx0_5 (t : Fin cfg0.N) : win0_5.index t 0 = 0 ∧ win0_5.index t 1 = t.val := by revert t; decide +kernel
theorem idx2_0 (t : Fin cfg2.N) : win2_0.index t 0 = 0 ∧ win2_0.index t 1 = t.val ∧ win2_0.index t 2 = 0 := by revert t; decide +kernel
theorem idx2_1 (t : Fin cfg2.N) : win2_1.index t 0 = t.val ∧ win2_1.index t 1 = 0 := by revert t; decide +kernel
theorem idx2_2 (t : Fin cfg2.N) : win2_2.index t 0 = t.val ∧ win2_2.index t 1 = 0 := by revert t; decide +kernel

/-! ## The input blocks -/

theorem top3Blk0_at (c : Dev nD) (t : Fin cfg0.N) (j : Fin 8192) (k : Fin 4) :
    top3Blk V c 0 t (ix2 j k) = (V c main_v18 : Vec F S8192x4 .f32) (ix2 j k) := by
  unfold top3Blk
  blk_ext [(idx0_0 t).1, (idx0_0 t).2]
theorem top3Blk1_at (c : Dev nD) (t : Fin cfg0.N) (k : Fin 4) (l : Fin 1024) (h) :
    top3Blk V c 1 t (ix2 k l) = (V c main_v28 : Vec F S4x16384 .f32) (ix2 k ⟨t.val * 1024 + l.val, h⟩) := by
  unfold top3Blk
  blk_ext [(idx0_1 t).1, (idx0_1 t).2]
theorem top3Blk2_at (c : Dev nD) (t : Fin cfg0.N) (l : Fin 1024) (h) :
    top3Blk V c 2 t (ix2 0 l) = (V c main_v24 : Vec F S1x16384 .f32) (ix2 0 ⟨t.val * 1024 + l.val, h⟩) := by
  unfold top3Blk
  blk_ext [(idx0_2 t).1, (idx0_2 t).2]
theorem top3Blk3_at (c : Dev nD) (t : Fin cfg0.N) (j : Fin 8192) :
    top3Blk V c 3 t (ix2 j 0) = (V c main_v27 : Vec F S8192x1 .f32) (ix2 j 0) := by
  unfold top3Blk
  blk_ext [(idx0_3 t).1, (idx0_3 t).2]
theorem wsumBlk0_at (c : Dev nD) (t : Fin cfg2.N) (k : Fin 3) (l : Fin 1024) (f : Fin 128) (h) :
    wsumBlk V c 0 t (ix3 k l f) = (V c main_v33 : Vec F S3x16384x128 .f32) (ix3 k ⟨t.val * 1024 + l.val, h⟩ f) := by
  unfold wsumBlk
  blk_ext [(idx2_0 t).1, (idx2_0 t).2.1, (idx2_0 t).2.2]
theorem wsumBlk1_at (c : Dev nD) (t : Fin cfg2.N) (l : Fin 1024) (k : Fin 4) (h) :
    wsumBlk V c 1 t (ix2 l k) = (V c main_v34 : Vec F S16384x4 .f32) (ix2 ⟨t.val * 1024 + l.val, h⟩ k) := by
  unfold wsumBlk
  blk_ext [(idx2_1 t).1, (idx2_1 t).2]

/-! ## The output arrays -/

theorem arr4_at (c : Dev nD) (t : Fin cfg0.N) (r : Fin 4) (l : Fin 1024) (h) :
    ((top3Dat V O B c).arrAt 4 cfg0.N : Vec F S4x16384 .i32) (ix2 r ⟨t.val * 1024 + l.val, h⟩)
      = top3Out4 (top3Blk V c 0 t) (top3Blk V c 1 t) (top3Blk V c 2 t) (top3Blk V c 3 t) (ix2 r l) := by
  have key := fun i => (top3Dat V O B c).arrAt_forall_of_covers 4 (fun i v => ∀ (t : Fin cfg0.N) (r : Fin 4) (l : Fin 1024), (i (0 : Fin 2)).val = r.val → (i (1 : Fin 2)).val = t.val * 1024 + l.val → v = top3Out4 (top3Blk V c 0 t) (top3Blk V c 1 t) (top3Blk V c 2 t) (top3Blk V c 3 t) (ix2 r l)) (by decide +kernel) (fun t hf y => by
    intro t' r' l' e0 e1
    blk_simp [(idx0_4 t).1, (idx0_4 t).2] at e0 e1
    have hy : (y (1 : Fin 2)).val < 1024 := (y (1 : Fin 2)).isLt
    obtain rfl : t = t' := Fin.ext (by have := l'.isLt; omega)
    have ey : (cfg0.win 4).xinj (cfg0.grid.coords t) y = ix2 r' l' := by
      funext a; fin_cases a
      · exact Fin.ext e0
      · exact Fin.ext (by show (y (1 : Fin 2)).val = l'.val; omega)
    rw [ey, top3_after4]; generalize top3Out4 (top3Blk V c 0 t) (top3Blk V c 1 t) (top3Blk V c 2 t) (top3Blk V c 3 t) = g; rfl) i
  exact key (ix2 r ⟨t.val * 1024 + l.val, h⟩) t r l rfl rfl

theorem arr5_at (c : Dev nD) (t : Fin cfg0.N) (r : Fin 4) (l : Fin 1024) (h) :
    ((top3Dat V O B c).arrAt 5 cfg0.N : Vec F S4x16384 .f32) (ix2 r ⟨t.val * 1024 + l.val, h⟩)
      = top3Out5 (top3Blk V c 0 t) (top3Blk V c 1 t) (top3Blk V c 2 t) (top3Blk V c 3 t) (ix2 r l) := by
  have key := fun i => (top3Dat V O B c).arrAt_forall_of_covers 5 (fun i v => ∀ (t : Fin cfg0.N) (r : Fin 4) (l : Fin 1024), (i (0 : Fin 2)).val = r.val → (i (1 : Fin 2)).val = t.val * 1024 + l.val → v = top3Out5 (top3Blk V c 0 t) (top3Blk V c 1 t) (top3Blk V c 2 t) (top3Blk V c 3 t) (ix2 r l)) (by decide +kernel) (fun t hf y => by
    intro t' r' l' e0 e1
    blk_simp [(idx0_5 t).1, (idx0_5 t).2] at e0 e1
    have hy : (y (1 : Fin 2)).val < 1024 := (y (1 : Fin 2)).isLt
    obtain rfl : t = t' := Fin.ext (by have := l'.isLt; omega)
    have ey : (cfg0.win 5).xinj (cfg0.grid.coords t) y = ix2 r' l' := by
      funext a; fin_cases a
      · exact Fin.ext e0
      · exact Fin.ext (by show (y (1 : Fin 2)).val = l'.val; omega)
    rw [ey, top3_after5]; generalize top3Out5 (top3Blk V c 0 t) (top3Blk V c 1 t) (top3Blk V c 2 t) (top3Blk V c 3 t) = g; rfl) i
  exact key (ix2 r ⟨t.val * 1024 + l.val, h⟩) t r l rfl rfl

theorem arrSum_at (c : Dev nD) (t : Fin cfg2.N) (l : Fin 1024) (f : Fin 128) (h) :
    ((wsumDat V O B c).arrAt 2 cfg2.N : Vec F S16384x128 .f32) (ix2 ⟨t.val * 1024 + l.val, h⟩ f)
      = wsumOut2 (wsumBlk V c 0 t) (wsumBlk V c 1 t) (ix2 l f) := by
  have key := fun i => (wsumDat V O B c).arrAt_forall_of_covers 2 (fun i v => ∀ (t : Fin cfg2.N) (l : Fin 1024) (f : Fin 128), (i (0 : Fin 2)).val = t.val * 1024 + l.val → (i (1 : Fin 2)).val = f.val → v = wsumOut2 (wsumBlk V c 0 t) (wsumBlk V c 1 t) (ix2 l f)) (by decide +kernel) (fun t hf y => by
    intro t' l' f' e0 e1
    blk_simp [(idx2_2 t).1, (idx2_2 t).2] at e0 e1
    have hy : (y (0 : Fin 2)).val < 1024 := (y (0 : Fin 2)).isLt
    obtain rfl : t = t' := Fin.ext (by have := l'.isLt; omega)
    have ey : (cfg2.win 2).xinj (cfg2.grid.coords t) y = ix2 l' f' := by
      funext a; fin_cases a
      · exact Fin.ext (by show (y (0 : Fin 2)).val = l'.val; omega)
      · exact Fin.ext e1
    rw [ey, wsum_after2]; rfl) i
  exact key (ix2 ⟨t.val * 1024 + l.val, h⟩ f) t l f rfl rfl

end

end Cert.Proof

end
-- ==== Proof.Readings.lean ====
/-
  What the host operations leave in the buffers the calls read.
-/
module

public import proofs.«01_k».proof.Proof.Arrays
public import Idealize.ShloMosaic.Lib.StableHlo.ReadAt
public import Idealize.ShloMosaic.Lib.Pointwise
@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open Idealize.ShloMosaic.Pipeline (Dat Window BodyObligation)

variable (m : (ℓ : Loc nD τ sig) → Buf (Elt Ideal) ℓ)

/-- The voxel indices' batch column and scaled centres. -/
def vox (p : Vec Ideal S8192x4 .i32) : Vec Ideal S8192x4 .f32 :=
  joinVox (extractStridedSlice S8192x1 ![0, 0] (sitofp (F := Ideal) .f32 p) slices_S8192x4_S8192x1_0_0)
    (addf (F := Ideal) (subf (mulf (extractStridedSlice S8192x3 ![0, 1] (sitofp (F := Ideal) .f32 p) slices_S8192x4_S8192x3_0_1)
        (broadcastInDim S8192x3 ![0, 1] bcast_S1x3_S8192x3_0_1 (broadcastInDim S1x3 ![1] bcast_S3_S1x3_1
          (broadcastInDim S3 ![] bcast_S_S3 (constant S_ .f32 0x3ECCCCCD#32)))))
      (broadcastInDim S8192x3 ![0, 1] bcast_S1x3_S8192x3_0_1 (broadcastInDim S1x3 ![1] bcast_S3_S1x3_1
        (mulf (broadcastInDim S3 ![] bcast_S_S3 (constant S_ .f32 0x3F000000#32))
          (broadcastInDim S3 ![] bcast_S_S3 (constant S_ .f32 0x424CCCCD#32))))))
      (broadcastInDim S8192x3 ![0, 1] bcast_S1x3_S8192x3_0_1 (broadcastInDim S1x3 ![1] bcast_S3_S1x3_1
        (mulf (broadcastInDim S3 ![] bcast_S_S3 (constant S_ .f32 0x3F000000#32))
          (broadcastInDim S3 ![] bcast_S_S3 (constant S_ .f32 0x3ECCCCCD#32))))))

/-- The points with their batch numbers in front. -/
def pts (x : Vec Ideal S16384x3 .f32) (b : Vec Ideal S16384 .i32) : Vec Ideal S16384x4 .f32 :=
  joinPts (broadcastInDim S16384x1 ![0] bcast_S16384_S16384x1_0 (sitofp (F := Ideal) .f32 b)) x

theorem A1_vox (c : Dev nD) : (A1 m c (Proc.devRef .tc main_v18) : Vec Ideal S8192x4 .f32) = vox (m ((c : Thread nD τ).loc main_arg1)) := by
  unfold A1; after_results_simp <;> (unfold A0; (first | unfold vox | unfold pts); rfl)
theorem A1_ptsT (c : Dev nD) : (A1 m c (Proc.devRef .tc main_v28) : Vec Ideal S4x16384 .f32)
    = transpose S4x16384 [1, 0] (pts (m ((c : Thread nD τ).loc main_arg2)) (m ((c : Thread nD τ).loc main_arg3))) transposes_S16384x4_S4x16384_1_0 := by
  unfold A1; after_results_simp <;> (unfold A0; (first | unfold vox | unfold pts); rfl)
theorem A1_ptsSq (c : Dev nD) : (A1 m c (Proc.devRef .tc main_v24) : Vec Ideal S1x16384 .f32)
    = (broadcastInDim S1x16384 ![1] bcast_S16384_S1x16384_1 (Host.reduceAdd (F := Ideal) (mulf (pts (m ((c : Thread nD τ).loc main_arg2)) (m ((c : Thread nD τ).loc main_arg3))) (pts (m ((c : Thread nD τ).loc main_arg2)) (m ((c : Thread nD τ).loc main_arg3)))) (constant S_ .f32 0x00000000#32) reducesTo_S16384x4_S16384_d1 h_S_) : Vec Ideal S1x16384 .f32) := by
  unfold A1; after_results_simp <;> (unfold A0; (first | unfold vox | unfold pts); rfl)
theorem A1_voxSq (c : Dev nD) : (A1 m c (Proc.devRef .tc main_v27) : Vec Ideal S8192x1 .f32)
    = (broadcastInDim S8192x1 ![0] bcast_S8192_S8192x1_0 (Host.reduceAdd (F := Ideal) (mulf (vox (m ((c : Thread nD τ).loc main_arg1))) (vox (m ((c : Thread nD τ).loc main_arg1)))) (constant S_ .f32 0x00000000#32) reducesTo_S8192x4_S8192_d1 h_S_) : Vec Ideal S8192x1 .f32) := by
  unfold A1; after_results_simp <;> (unfold A0; (first | unfold vox | unfold pts); rfl)
theorem A3_flat (c : Dev nD) : (A3 m c (Proc.devRef .tc main_v31) : Vec Ideal S49152 .i32)
    = shapeCast S49152 (extractStridedSlice S3x16384 ![0, 0] (A2 m c (Proc.devRef .tc main_v29_0) : Vec Ideal S4x16384 .i32) slices_S4x16384_S3x16384_0_0) shapeCasts_S3x16384_S49152 := by
  unfold A3; after_results_simp <;> rfl
theorem A5_rows (c : Dev nD) : (A5 m c (Proc.devRef .tc main_v33) : Vec Ideal S3x16384x128 .f32)
    = shapeCast S3x16384x128 (A4 m c (Proc.devRef .tc main_v32) : Vec Ideal S49152x128 .f32) shapeCasts_S49152x128_S3x16384x128 := by
  unfold A5; after_results_simp <;> rfl
theorem A5_wts (c : Dev nD) : (A5 m c (Proc.devRef .tc main_v34) : Vec Ideal S16384x4 .f32)
    = transpose S16384x4 [1, 0] (A4 m c (Proc.devRef .tc main_v29_1) : Vec Ideal S4x16384 .f32) transposes_S4x16384_S16384x4_1_0 := by
  unfold A5; after_results_simp <;> rfl

end Cert.Proof

end
-- ==== Proof.KernelValue.lean ====
/-
  The kernel's result at an index: for every point, the three nearest voxels and their weighted rows.
-/
module

public import proofs.«01_k».proof.Proof.Readings

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open Idealize.ShloMosaic.Pipeline (Dat Window BodyObligation)

variable (m : (ℓ : Loc nD τ sig) → Buf (Elt Ideal) ℓ)

/-- Every voxel's clamped squared distance from point `n`. -/
def dist (v : Vec Ideal S8192x4 .f32) (p : Vec Ideal S16384x4 .f32) (n : Fin 16384) (j : Fin 8192) : EReal :=
  clampedDist (∑ k : Fin 4, p (ix2 n k) * p (ix2 n k)) (∑ k : Fin 4, v (ix2 j k) * v (ix2 j k)) (∑ k : Fin 4, v (ix2 j k) * p (ix2 n k))

/-- The program's voxels and points. -/
abbrev voxOf (c : Dev nD) : Vec Ideal S8192x4 .f32 := vox (m ((c : Thread nD τ).loc main_arg1))
abbrev ptsOf (c : Dev nD) : Vec Ideal S16384x4 .f32 := pts (m ((c : Thread nD τ).loc main_arg2)) (m ((c : Thread nD τ).loc main_arg3))

theorem ptsT_at (c : Dev nD) (k : Fin 4) (l : Fin 16384) :
    (A1 m c (Proc.devRef .tc main_v28) : Vec Ideal S4x16384 .f32) (ix2 k l) = ptsOf m c (ix2 l k) := by
  rw [A1_ptsT]; pointwise
theorem ptsSq_at (c : Dev nD) (l : Fin 16384) :
    (A1 m c (Proc.devRef .tc main_v24) : Vec Ideal S1x16384 .f32) (ix2 0 l) = ∑ k : Fin 4, ptsOf m c (ix2 l k) * ptsOf m c (ix2 l k) := by
  rw [A1_ptsSq]; pointwise
theorem voxSq_at (c : Dev nD) (j : Fin 8192) :
    (A1 m c (Proc.devRef .tc main_v27) : Vec Ideal S8192x1 .f32) (ix2 j 0) = ∑ k : Fin 4, voxOf m c (ix2 j k) * voxOf m c (ix2 j k) := by
  rw [A1_voxSq]; pointwise
theorem flat_at (c : Dev nD) (k : Fin 3) (n : Fin 16384) (h) :
    (A3 m c (Proc.devRef .tc main_v31) : Vec Ideal S49152 .i32) (ix1 ⟨k.val * 16384 + n.val, h⟩)
      = (A2 m c (Proc.devRef .tc main_v29_0) : Vec Ideal S4x16384 .i32) (ix2 (k.castLE (by decide)) n) := by
  rw [A3_flat]; pointwise; rfl
theorem rows_at (c : Dev nD) (k : Fin 3) (n : Fin 16384) (f : Fin 128) (h) :
    (A5 m c (Proc.devRef .tc main_v33) : Vec Ideal S3x16384x128 .f32) (ix3 k n f)
      = (A4 m c (Proc.devRef .tc main_v32) : Vec Ideal S49152x128 .f32) (ix2 ⟨k.val * 16384 + n.val, h⟩ f) := by
  rw [A5_rows]; pointwise
theorem wts_at (c : Dev nD) (n : Fin 16384) (k : Fin 4) :
    (A5 m c (Proc.devRef .tc main_v34) : Vec Ideal S16384x4 .f32) (ix2 n k)
      = (A2 m c (Proc.devRef .tc main_v29_1) : Vec Ideal S4x16384 .f32) (ix2 k n) := by
  rw [A5_wts, A4_of_ne m c _ (by decide)]
  have e : A3 m c (Proc.devRef .tc main_v29_1) = A2 m c (Proc.devRef .tc main_v29_1) := by
    unfold A3; exact StableHlo.after_of_writes_sub opsFlat _ opsFlat_writes (by decide)
  rw [e]; pointwise

/-- A block's distances are its points'. -/
theorem block_dist (c : Dev nD) (t : Fin cfg0.N) (l : Fin 1024) (h) :
    blockDist (top3Blk (tcView (A1 m)) c 0 t) (top3Blk (tcView (A1 m)) c 1 t) (top3Blk (tcView (A1 m)) c 2 t) (top3Blk (tcView (A1 m)) c 3 t) l
      = dist (voxOf m c) (ptsOf m c) ⟨t.val * 1024 + l.val, h⟩ := by
  funext j
  unfold blockDist dist
  rw [top3Blk2_at _ _ _ _ h, top3Blk3_at]
  simp only [top3Blk0_at, top3Blk1_at _ _ _ _ _ h]
  exact congr (congr (congrArg clampedDist (ptsSq_at m c _)) (voxSq_at m c j))
    (Finset.sum_congr rfl fun k _ => congr (congrArg _ (congrFun (A1_vox m c) _)) (ptsT_at m c k _))

/-- What the first call leaves for point `n`: the numbers of its three nearest voxels and their weights. -/
theorem top3_cols (c : Dev nD) (n : Fin 16384) : ∃ a b e : Fin 8192, First3 (dist (voxOf m c) (ptsOf m c) n) Fin.val a b e
    ∧ (∀ k : Fin 3, (A2 m c (Proc.devRef .tc main_v29_0) : Vec Ideal S4x16384 .i32) (ix2 (k.castLE (by decide)) n)
        = BitVec.ofNat 32 (![a, b, e] k).val)
    ∧ (∀ (k : Fin 3), (A2 m c (Proc.devRef .tc main_v29_1) : Vec Ideal S4x16384 .f32) (ix2 (k.castLE (by decide)) n)
        = weight (dist (voxOf m c) (ptsOf m c) n a) (dist (voxOf m c) (ptsOf m c) n b) (dist (voxOf m c) (ptsOf m c) n e)
            (dist (voxOf m c) (ptsOf m c) n (![a, b, e] k))) := by
  obtain ⟨t, l, hn, rfl⟩ : ∃ (t : Fin cfg0.N) (l : Fin 1024) (h : t.val * 1024 + l.val < 16384), n = ⟨t.val * 1024 + l.val, h⟩ := by
    have hn := n.isLt
    have e : n.val / 1024 * 1024 + n.val % 1024 = n.val := by omega
    exact ⟨⟨n.val / 1024, by show n.val / 1024 < 16; omega⟩, ⟨n.val % 1024, Nat.mod_lt _ (by norm_num)⟩,
      by show n.val / 1024 * 1024 + n.val % 1024 < 16384; omega, Fin.ext e.symm⟩
  obtain ⟨a, b, e, hf, i0, i1, i2, w0, w1, w2⟩ := top3_block (top3Blk (tcView (A1 m)) c 0 t) (top3Blk (tcView (A1 m)) c 1 t) (top3Blk (tcView (A1 m)) c 2 t) (top3Blk (tcView (A1 m)) c 3 t) l
  have hd := block_dist m c t l hn
  rw [hd] at hf w0 w1 w2
  have h4 : ∀ r : Fin 4, (A2 m c (Proc.devRef .tc main_v29_0) : Vec Ideal S4x16384 .i32) (ix2 r ⟨t.val * 1024 + l.val, hn⟩) = _ :=
    fun r => (congrFun (A2_arr m c 4) _).trans (arr4_at (tcView (A1 m)) _ _ c t r l hn)
  have h5 : ∀ r : Fin 4, (A2 m c (Proc.devRef .tc main_v29_1) : Vec Ideal S4x16384 .f32) (ix2 r ⟨t.val * 1024 + l.val, hn⟩) = _ :=
    fun r => (congrFun (A2_arr m c 5) _).trans (arr5_at (tcView (A1 m)) _ _ c t r l hn)
  refine ⟨a, b, e, hf, fun k => ?_, fun k => ?_⟩
  · fin_cases k
    · exact (h4 0).trans i0
    · exact (h4 1).trans i1
    · exact (h4 2).trans i2
  · fin_cases k
    · exact (h5 0).trans w0
    · exact (h5 1).trans w1
    · exact (h5 2).trans w2

/-- Position `k * 16384 + n` of the flattened row numbers is point `n`'s `k`-th nearest voxel. -/
theorem flat_num (c : Dev nD) (n : Fin 16384) (a b e : Fin 8192)
    (hi : ∀ k : Fin 3, (A2 m c (Proc.devRef .tc main_v29_0) : Vec Ideal S4x16384 .i32) (ix2 (k.castLE (by decide)) n)
        = BitVec.ofNat 32 (![a, b, e] k).val) (k : Fin 3) (h : k.val * 16384 + n.val < 49152) :
    (Jc m c (at1 ⟨k.val * 16384 + n.val, h⟩)).toNat = (![a, b, e] k).val := by
  have e1 : Jc m c (at1 ⟨k.val * 16384 + n.val, h⟩) = BitVec.ofNat 32 (![a, b, e] k).val := by
    refine Eq.trans (congrArg (Jc m c) ?_) ((flat_at m c k n h).trans (hi k))
    funext x; fin_cases x; rfl
  rw [e1, BitVec.toNat_ofNat]
  have := (![a, b, e] k).isLt
  omega

/-- Every row number the SparseCores read names a voxel. -/
theorem inRange : InRange (Jc m) := fun c j => by
  have hj : (j (0 : Fin 1)).val < 49152 := (j (0 : Fin 1)).isLt
  obtain ⟨k, n, h, hk⟩ : ∃ (k : Fin 3) (n : Fin 16384) (h : k.val * 16384 + n.val < 49152), j = at1 ⟨k.val * 16384 + n.val, h⟩ := by
    have e : (j (0 : Fin 1)).val / 16384 * 16384 + (j (0 : Fin 1)).val % 16384 = (j (0 : Fin 1)).val := by omega
    refine ⟨⟨(j (0 : Fin 1)).val / 16384, by omega⟩, ⟨(j (0 : Fin 1)).val % 16384, Nat.mod_lt _ (by norm_num)⟩, by
      show (j (0 : Fin 1)).val / 16384 * 16384 + (j (0 : Fin 1)).val % 16384 < 49152; omega, ?_⟩
    funext x; fin_cases x; exact Fin.ext e.symm
  obtain ⟨a, b, e, -, hi, -⟩ := top3_cols m c n
  rw [hk, flat_num m c n a b e hi k h]
  exact (![a, b, e] k).isLt

/-- The second call's block at an index: three products added up. -/
theorem wsumOut2_at (x0 : Vec Ideal S3x1024x128 .f32) (x1 : Vec Ideal S1024x4 .f32) (l : Fin 1024) (f : Fin 128) :
    wsumOut2 x0 x1 (ix2 l f) = x0 (ix3 0 l f) * x1 (ix2 l 0) + x0 (ix3 1 l f) * x1 (ix2 l 1) + x0 (ix3 2 l f) * x1 (ix2 l 2) := by
  have z3 : (![0, 0, 0] : Fin 3 → Nat) = fun _ => 0 := by funext a; fin_cases a <;> rfl
  have o : wsumOut2 x0 x1 = k2_pay1 (View.ld x0 rRows) (View.ld x1 rWts) := View.canon_unit_zero zeros2 _ _
  have l0 : View.ld x0 rRows = x0 := View.ld_unit_zero z3 _ _
  have l1 : View.ld x1 rWts = x1 := View.ld_unit_zero zeros2 _ _
  rw [o, l0, l1]; pointwise [k2_pay1]

/-- Column `f` of the rows `a`, `b`, `e` of `x`, each by its weight among the three, added up. -/
def wsum3 (x : Vec Ideal S8192x128 .f32) (d : Fin 8192 → EReal) (a b e : Fin 8192) (f : Fin 128) : EReal :=
  x (ix2 a f) * weight (d a) (d b) (d e) (d a) + x (ix2 b f) * weight (d a) (d b) (d e) (d b) + x (ix2 e f) * weight (d a) (d b) (d e) (d e)

/-- The kernel's result: the rows of the three nearest voxels, each by its weight, added up. -/
theorem out_at (c : Dev nD) (n : Fin 16384) (f : Fin 128) :
    ∃ a b e : Fin 8192, First3 (dist (voxOf m c) (ptsOf m c) n) Fin.val a b e
    ∧ (A6 m c (Proc.devRef .tc main_v35) : Vec Ideal S16384x128 .f32) (ix2 n f)
      = wsum3 (m ((c : Thread nD τ).loc main_arg0)) (dist (voxOf m c) (ptsOf m c) n) a b e f := by
  obtain ⟨a, b, e, hf, hi, hw⟩ := top3_cols m c n
  refine ⟨a, b, e, hf, ?_⟩
  obtain ⟨t, l, hn, hh⟩ : ∃ (t : Fin cfg2.N) (l : Fin 1024) (h : t.val * 1024 + l.val < 16384), n = ⟨t.val * 1024 + l.val, h⟩ := by
    have hn := n.isLt
    have e : n.val / 1024 * 1024 + n.val % 1024 = n.val := by omega
    exact ⟨⟨n.val / 1024, by show n.val / 1024 < 16; omega⟩, ⟨n.val % 1024, Nat.mod_lt _ (by norm_num)⟩,
      by show n.val / 1024 * 1024 + n.val % 1024 < 16384; omega, Fin.ext e.symm⟩
  have hrow : ∀ k : Fin 3, wsumBlk (tcView (A5 m)) c 0 t (ix3 k l f)
      = (m ((c : Thread nD τ).loc main_arg0) : Vec Ideal S8192x128 .f32) (ix2 (![a, b, e] k) f) := fun k => by
    have h3 : k.val * 16384 + n.val < 49152 := by have := k.isLt; have := n.isLt; omega
    rw [wsumBlk0_at _ _ _ _ _ _ hn, ← hh]
    refine (rows_at m c k n f h3).trans ((congrFun (A4_rows m c) _).trans ?_)
    have hx : Xc m c = m ((c : Thread nD τ).loc main_arg0) := A3_args m c main_arg0 (by decide)
    unfold gat
    rw [hx]
    refine congrArg (m ((c : Thread nD τ).loc main_arg0)) ?_
    have e2 := flat_num m c n a b e hi k h3
    funext x; fin_cases x
    · refine Fin.ext ?_
      show (Jc m c (at1 ⟨k.val * 16384 + n.val, h3⟩)).toNat % 8192 = (![a, b, e] k).val
      rw [e2]; exact Nat.mod_eq_of_lt (![a, b, e] k).isLt
    · rfl
  have hwt : ∀ k : Fin 3, wsumBlk (tcView (A5 m)) c 1 t (ix2 l (k.castLE (by decide)))
      = weight (dist (voxOf m c) (ptsOf m c) n a) (dist (voxOf m c) (ptsOf m c) n b) (dist (voxOf m c) (ptsOf m c) n e)
            (dist (voxOf m c) (ptsOf m c) n (![a, b, e] k)) := fun k => by
    rw [wsumBlk1_at _ _ _ _ _ hn, ← hh]
    exact (wts_at m c n _).trans (hw k)
  refine (congrFun (A6_arr m c 2) _).trans ?_
  rw [show (ix2 n f : S16384x128.Idx) = ix2 ⟨t.val * 1024 + l.val, hn⟩ f from by rw [hh]]
  refine (arrSum_at (tcView (A5 m)) _ _ c t l f hn).trans ((wsumOut2_at _ _ l f).trans ?_)
  exact congr (congrArg _ (congr (congrArg _ (congr (congrArg _ (hrow 0)) (hwt 0))) (congr (congrArg _ (hrow 1)) (hwt 1)))) (congr (congrArg _ (hrow 2)) (hwt 2))
end Cert.Proof

end
-- ==== Proof.TopThree.lean ====
/-
  The reference's stable top-three of a row, read: its entries are the three least of the negated row, ties going to the
  smaller position.
-/
module

public import proofs.«01_k».proof.Proof.Least
public import Idealize.ShloMosaic.Lib.SortFacts
public import Idealize.ShloMosaic.PureOps.Ideal

@[expose] public section

set_option maxRecDepth 16384

noncomputable section

namespace Cert.Proof

open Idealize.ShloMosaic

section
variable {n : ℕ} (d : Fin n → EReal)

/-- `a` has a smaller value than `b`. -/
def lower (a b : Fin n) : Bool := decide (d a < d b)

/-- Putting a position that is smaller than all of a list's into the list, ordered, leaves it ordered. -/
theorem insert_ordered (a : Fin n) (l : List (Fin n)) (ha : ∀ b ∈ l, a ≤ b) (hl : l.Pairwise (Before d Fin.val)) :
    (insertBefore (lower d) a l).Pairwise (Before d Fin.val) := by
  induction l with
  | nil => exact List.pairwise_singleton _ _
  | cons b l ih =>
    have h1 : ∀ x ∈ l, Before d Fin.val b x := (List.pairwise_cons.mp hl).1
    have h2 := List.Pairwise.of_cons hl
    by_cases hba : d b < d a
    · have e : insertBefore (lower d) a (b :: l) = b :: insertBefore (lower d) a l := by
        rw [insertBefore, if_pos (by unfold lower; exact decide_eq_true hba)]
      rw [e, List.pairwise_cons]
      refine ⟨fun x hx => ?_, ih (fun x hx => ha x (List.mem_cons_of_mem _ hx)) h2⟩
      rw [(perm_insertBefore (lower d) a l).mem_iff, List.mem_cons] at hx
      rcases hx with rfl | hx
      · exact Or.inl hba
      · exact h1 _ hx
    · have e : insertBefore (lower d) a (b :: l) = a :: b :: l := by
        rw [insertBefore, if_neg (by unfold lower; simpa using hba)]
      have hab : Before d Fin.val a b := by
        rcases lt_or_eq_of_le (not_lt.mp hba) with h | h
        · exact Or.inl h
        · exact Or.inr ⟨h, ha b List.mem_cons_self⟩
      rw [e, List.pairwise_cons]
      refine ⟨fun x hx => ?_, hl⟩
      rcases List.mem_cons.mp hx with rfl | hx
      · exact hab
      · exact hab.trans (h1 _ hx)

/-- A stable sort by value leaves the positions ordered by value, then position. -/
theorem sort_ordered (l : List (Fin n)) (hl : l.Pairwise (· < ·)) : (stableSort (lower d) l).Pairwise (Before d Fin.val) := by
  induction l with
  | nil => exact List.Pairwise.nil
  | cons a l ih =>
    exact insert_ordered d a _ (fun b hb => (List.rel_of_pairwise_cons hl ((perm_stableSort _ l).mem_iff.mp hb)).le)
      (ih (List.Pairwise.of_cons hl))

/-- Of two places in the sorted order, the earlier one's position comes first. -/
theorem sorted_before (i j : Fin n) (h : i ≤ j) : Before d Fin.val (sortedFrom (lower d) i) (sortedFrom (lower d) j) := by
  rcases h.eq_or_lt with rfl | h
  · exact Or.inr ⟨rfl, le_rfl⟩
  · exact List.pairwise_iff_get.mp (sort_ordered d _ (List.pairwise_lt_finRange n)) _ _ h

/-- The first three places of the sorted order hold the three least. -/
theorem sorted_first3 (i0 i1 i2 : Fin n) (h0 : i0.val = 0) (h1 : i1.val = 1) (h2 : i2.val = 2) :
    First3 d Fin.val (sortedFrom (lower d) i0) (sortedFrom (lower d) i1) (sortedFrom (lower d) i2) := by
  have inj : ∀ i j : Fin n, (sortedFrom (lower d) i).val = (sortedFrom (lower d) j).val → i.val = j.val :=
    fun i j e => congrArg Fin.val (sortedFrom_injective (lower d) (Fin.ext e))
  refine ⟨fun j => ?_, fun e => ?_, fun j hj => ?_, fun e => ?_, fun e => ?_, fun j hj hk => ?_⟩
  · obtain ⟨k, rfl⟩ := sortedFrom_surjective (lower d) j
    exact sorted_before d _ _ (Fin.le_def.mpr (by omega))
  · have := inj _ _ e; omega
  · obtain ⟨k, rfl⟩ := sortedFrom_surjective (lower d) j
    have : k.val ≠ i0.val := fun e => hj (by rw [Fin.ext e])
    exact sorted_before d _ _ (Fin.le_def.mpr (by omega))
  · have := inj _ _ e; omega
  · have := inj _ _ e; omega
  · obtain ⟨k, rfl⟩ := sortedFrom_surjective (lower d) j
    have : k.val ≠ i0.val := fun e => hj (by rw [Fin.ext e])
    have : k.val ≠ i1.val := fun e => hk (by rw [Fin.ext e])
    exact sorted_before d _ _ (Fin.le_def.mpr (by omega))
end

/-- The top three of every row of `x`, where row `r` is the negation of `d`: the values and positions of the three least of `d`. -/
theorem topThree {R N : ℕ} (x : (⟨2, ![R, N]⟩ : Shape).Idx → Ideal .f32) (hN : 3 ≤ N)
    (h : (⟨2, ![R, N]⟩ : Shape).Slices (fun _ => 0) ⟨2, ![R, 3]⟩) (r : Fin R) (d : Fin N → EReal) (hx : ∀ j, x (ix2 r j) = -d j) :
    ∃ a : Fin 3 → Fin N, First3 d Fin.val (a 0) (a 1) (a 2)
      ∧ (∀ k, (Host.topK ⟨2, ![R, 3]⟩ 1 (FloatOps.cmpfTotal .gt) x h).1 (ix2 r k) = -d (a k))
      ∧ (∀ k, (Host.topK ⟨2, ![R, 3]⟩ 1 (FloatOps.cmpfTotal .gt) x h).2 (ix2 r k) = BitVec.ofNat 32 (a k).val) := by
  have key : ∀ k : Fin 3, ∃ J : (⟨2, ![R, N]⟩ : Shape).Idx, J = ix2 r (k.castLE hN)
      ∧ (Host.topK ⟨2, ![R, 3]⟩ 1 (FloatOps.cmpfTotal .gt) x h).1 (ix2 r k)
        = x (J.along 1 (sortedFrom (fun i j => FloatOps.cmpfTotal (F := Ideal) (φ := .f32) .gt (x (J.along 1 i)) (x (J.along 1 j)) == 1#1) (J 1)))
      ∧ (Host.topK ⟨2, ![R, 3]⟩ 1 (FloatOps.cmpfTotal .gt) x h).2 (ix2 r k)
        = BitVec.ofNat 32 ((J.along 1 (sortedFrom (fun i j => FloatOps.cmpfTotal (F := Ideal) (φ := .f32) .gt (x (J.along 1 i)) (x (J.along 1 j)) == 1#1) (J 1))) 1).val := by
    intro k
    refine ⟨_, ?_, rfl, rfl⟩
    funext a; fin_cases a
    · exact Fin.ext (Nat.zero_add _)
    · exact Fin.ext (Nat.zero_add _)
  have al : ∀ (k : Fin N) (i : Fin N), (ix2 r k : (⟨2, ![R, N]⟩ : Shape).Idx).along 1 i = ix2 r i := by
    intro k i
    funext a; fin_cases a
    · exact Function.update_of_ne (show (0 : Fin 2) ≠ 1 by decide) _ _
    · exact Function.update_self _ _ _
  have lo : ∀ k : Fin N, (fun i j : Fin N => FloatOps.cmpfTotal (F := Ideal) (φ := .f32) .gt (x ((ix2 r k : (⟨2, ![R, N]⟩ : Shape).Idx).along 1 i)) (x ((ix2 r k : (⟨2, ![R, N]⟩ : Shape).Idx).along 1 j)) == 1#1) = lower d := by
    intro k
    funext i j
    have e : ∀ i, x ((ix2 r k : (⟨2, ![R, N]⟩ : Shape).Idx).along 1 i) = -d i := fun i => (congrArg x (al k i)).trans (hx i)
    refine (congr (congrArg (fun (u v : Ideal .f32) => FloatOps.cmpfTotal (F := Ideal) (φ := .f32) .gt u v == 1#1) (e i)) (e j)).trans ?_
    show (BitVec.ofBool (decide (-d j < -d i)) == 1#1) = decide (d i < d j)
    rw [decide_eq_decide.mpr EReal.neg_lt_neg_iff]
    cases decide (d i < d j) <;> rfl
  refine ⟨fun k => sortedFrom (lower d) (k.castLE hN), sorted_first3 d _ _ _ rfl rfl rfl, fun k => ?_, fun k => ?_⟩
  · obtain ⟨J, rfl, h1, -⟩ := key k
    exact h1.trans (((congrArg x (al _ _)).trans (hx _)).trans (congrArg (fun f => -d (sortedFrom f (k.castLE hN))) (lo _)))
  · obtain ⟨J, rfl, -, h2⟩ := key k
    exact h2.trans ((congrArg (fun J : (⟨2, ![R, N]⟩ : Shape).Idx => BitVec.ofNat 32 (J 1).val) (al _ _)).trans
      (congrArg (fun f => BitVec.ofNat 32 (sortedFrom f (k.castLE hN)).val) (lo _)))

end Cert.Proof

end
-- ==== Proof.RefValue.lean ====
/-
  The reference's result at an index: for every point, the three nearest voxels and their weighted rows.
-/
module

public import proofs.«01_k».proof.Proof.KernelValue
public import proofs.«01_k».proof.Proof.TopThree
public import proofs.«01_k».proof.Proof.Gen.ReferenceIdeal
public import proofs.«01_k».proof.Proof.Gen.ReferenceIdeal.Run

@[expose] public section

set_option maxRecDepth 16384

noncomputable section

namespace Cert.Proof

open Cert.ReferenceIdeal Cert.ReferenceIdeal.Gen
open Idealize.ShloMosaic Idealize.ShloMosaic.TcCoe Idealize.ShloMosaic.Tactic

/-- The negated clamped squared distances, points by voxels. -/
def refNeg (v : FVec Ideal S8192x4 .f32) (p : FVec Ideal S16384x4 .f32) : FVec Ideal S16384x8192 .f32 :=
  Host.negf (maximumf (subf
    (addf (broadcastInDim S16384x8192 ![0, 1] bcast_S16384x1_S16384x8192_0_1 (broadcastInDim S16384x1 ![0] bcast_S16384_S16384x1_0
        (Host.reduceAdd (mulf p p) (constant S_ .f32 0x00000000#32) reducesTo_S16384x4_S16384_d1 h_S_)))
      (broadcastInDim S16384x8192 ![0, 1] bcast_S1x8192_S16384x8192_0_1 (broadcastInDim S1x8192 ![1] bcast_S8192_S1x8192_1
        (Host.reduceAdd (mulf v v) (constant S_ .f32 0x00000000#32) reducesTo_S8192x4_S8192_d1 h_S_))))
    (mulf (broadcastInDim S16384x8192 ![] bcast_S_S16384x8192 (constant S_ .f32 0x40000000#32))
      (Host.dotGeneral dot_S16384x4_S4x8192_S16384x8192_1_0_0_1_n_n none p (transpose S4x8192 [1, 0] v transposes_S8192x4_S4x8192_1_0))))
    (broadcastInDim S16384x8192 ![] bcast_S_S16384x8192 (constant S_ .f32 0x00000000#32)))

/-- The inverse distances of the three nearest, from their negated distances. -/
def refInv (nv : FVec Ideal S16384x3 .f32) : FVec Ideal S16384x3 .f32 :=
  Host.divf (broadcastInDim S16384x3 ![] bcast_S_S16384x3 (constant S_ .f32 0x3F800000#32))
    (addf (Host.negf nv) (broadcastInDim S16384x3 ![] bcast_S_S16384x3 (constant S_ .f32 0x322BCC77#32)))

/-- The inverse distances over their sum. -/
def refWts (iv : FVec Ideal S16384x3 .f32) : FVec Ideal S16384x3 .f32 :=
  Host.divf iv (broadcastInDim S16384x3 ![0, 1] bcast_S16384x1_S16384x3_0_1 (broadcastInDim S16384x1 ![0] bcast_S16384_S16384x1_0
    (Host.reduceAdd iv (constant S_ .f32 0x00000000#32) reducesTo_S16384x3_S16384_d1 h_S_)))

/-- The row numbers as the gather takes them. -/
def refIdx (i : IVec S16384x3 32) : IVec S16384x3x1 32 :=
  broadcastInDim S16384x3x1 ![0, 1] bcast_S16384x3_S16384x3x1_0_1
    (select (cmpi .slt i (broadcastInDim S16384x3 ![] bcast_S_S16384x3 (constantI S_ 32 0#32)))
      (addi i (broadcastInDim S16384x3 ![] bcast_S_S16384x3 (constantI S_ 32 8192#32))) i)

/-- The gathered rows, each by its weight, added up. -/
def refSum (x : FVec Ideal S8192x128 .f32) (w : FVec Ideal S16384x3 .f32) (i : IVec S16384x3x1 32) : FVec Ideal S16384x128 .f32 :=
  Host.reduceAdd (mulf (Host.gather gather_S8192x128_S16384x3x1_S16384x3x128_2_0_n_n_0_2_1128 x i)
      (broadcastInDim S16384x3x128 ![0, 1, 2] bcast_S16384x3x1_S16384x3x128_0_1_2 (broadcastInDim S16384x3x1 ![0, 1] bcast_S16384x3_S16384x3x1_0_1 w)))
    (constant S_ .f32 0x00000000#32) reducesTo_S16384x3x128_S16384x128_d1 h_S_

/-- The reference's result from the rows, the voxels and the points. -/
def refOut (x : FVec Ideal S8192x128 .f32) (v : FVec Ideal S8192x4 .f32) (p : FVec Ideal S16384x4 .f32) : FVec Ideal S16384x128 .f32 :=
  refSum x (refWts (refInv (Host.topK S16384x3 1 (FloatOps.cmpfTotal .gt) (refNeg v p) sliceFits_S16384x8192_S16384x3).1))
    (refIdx (Host.topK S16384x3 1 (FloatOps.cmpfTotal .gt) (refNeg v p) sliceFits_S16384x8192_S16384x3).2)

/-- The reference's result array is that of the definitions above, at its argument arrays. -/
theorem res_eq (m : (ℓ : Loc nD τ sig) → Buf (Elt Ideal) ℓ) (c : Dev nD) :
    Value.res_main_v58 m c = refOut (m ((c.tc : Thread nD τ).loc main_arg0)) (vox (m ((c.tc : Thread nD τ).loc main_arg1)))
      (pts (m ((c.tc : Thread nD τ).loc main_arg2)) (m ((c.tc : Thread nD τ).loc main_arg3))) := by
  unfold Value.res_main_v58; rfl

/-- A negated distance at a point and a voxel. -/
theorem refNeg_at (v : FVec Ideal S8192x4 .f32) (p : FVec Ideal S16384x4 .f32) (n : Fin 16384) (j : Fin 8192) :
    refNeg v p (ix2 n j) = -dist v p n j := by
  unfold refNeg
  pointwise [dist, clampedDist]
  simp only [mul_comm]

/-- An inverse distance at a point and a place among the three. -/
theorem refInv_at (nv : FVec Ideal S16384x3 .f32) (n : Fin 16384) (k : Fin 3) : refInv nv (ix2 n k) = invDist (-nv (ix2 n k)) := by
  unfold refInv
  pointwise [invDist]

/-- A weight at a point and a place among the three. -/
theorem refWts_at (iv : FVec Ideal S16384x3 .f32) (n : Fin 16384) (k : Fin 3) :
    refWts iv (ix2 n k) = Ideal.div (iv (ix2 n k)) (iv (ix2 n 0) + iv (ix2 n 1) + iv (ix2 n 2)) := by
  unfold refWts
  pointwise [Fin.sum_univ_three]

/-- A row number is never negative, so it reaches the gather as it is. -/
theorem refIdx_at (i : IVec S16384x3 32) (n : Fin 16384) (k : Fin 3) (a : Fin 8192) (h : i (ix2 n k) = BitVec.ofNat 32 a.val) :
    refIdx i (ix3 n k 0) = BitVec.ofNat 32 a.val := by
  unfold refIdx
  pointwise
  have hn : ¬ (BitVec.ofNat 32 a.val).slt 0#32 = true := by
    rw [BitVec.slt_iff_toInt_lt, toInt_ofNat_small _ (by omega)]
    simp
  rw [h]
  simp [Scalar.select, IntOp.cmpi, hn]

/-- The gather reads the named row. -/
theorem refGather_at (x : FVec Ideal S8192x128 .f32) (i : IVec S16384x3x1 32) (n : Fin 16384) (k : Fin 3) (f : Fin 128) (a : Fin 8192)
    (h : i (ix3 n k 0) = BitVec.ofNat 32 a.val) :
    Host.gather gather_S8192x128_S16384x3x1_S16384x3x128_2_0_n_n_0_2_1128 x i (ix3 n k f) = x (ix2 a f) := by
  generalize hD : gather_S8192x128_S16384x3x1_S16384x3x128_2_0_n_n_0_2_1128 = D
  unfold Host.gather
  congr 1
  funext b
  refine Fin.ext ?_
  show D.start (ix3 n k f) i b + D.batchCoord (ix3 n k f) b + D.offCoord (ix3 n k f) b = _
  subst hD
  rw [GatherDims.batchCoord_eq_zero _ _ _ List.not_mem_nil, Nat.add_zero]
  match b with
  | ⟨0, h0⟩ =>
    rw [GatherDims.offCoord_eq_zero _ _ _ (fun h => ((GatherDims.mem_sKept _ _).mp h).1 (List.mem_singleton.mpr rfl)), Nat.add_zero]
    unfold GatherDims.start
    rw [dif_pos (show (⟨0, h0⟩ : Fin S8192x128.rank) ∈ gather_S8192x128_S16384x3x1_S16384x3x128_2_0_n_n_0_2_1128.startIndexMap from List.mem_singleton.mpr rfl)]
    have hs : gather_S8192x128_S16384x3x1_S16384x3x128_2_0_n_n_0_2_1128.siIdx (ix3 n k f) ⟨List.idxOf (0 : Fin 2) [0],
        List.idxOf_lt_length_iff.2 (List.mem_singleton.mpr rfl)⟩ = (ix3 n k 0 : S16384x3x1.Idx) := by
      funext e
      refine Fin.ext ?_
      match e with
      | ⟨0, _⟩ => rfl
      | ⟨1, _⟩ => rfl
      | ⟨2, _⟩ => rfl
    refine (congrArg (fun z => min (i z).toInt.toNat (8192 - 1)) hs).trans ?_
    show min (i (ix3 n k 0)).toInt.toNat (8192 - 1) = a.val
    rw [h, toInt_ofNat_small _ (by omega)]
    omega
  | ⟨1, h1⟩ =>
    unfold GatherDims.start
    rw [dif_neg (show (⟨1, h1⟩ : Fin S8192x128.rank) ∉ gather_S8192x128_S16384x3x1_S16384x3x128_2_0_n_n_0_2_1128.startIndexMap from (by decide : (1 : Fin 2) ∉ [(0 : Fin 2)])), Nat.zero_add]
    rfl

/-- The weighted sum of the three gathered rows, at a column. -/
theorem refSum_at (x : FVec Ideal S8192x128 .f32) (w : FVec Ideal S16384x3 .f32) (i : IVec S16384x3x1 32) (n : Fin 16384) (f : Fin 128)
    (a : Fin 3 → Fin 8192) (h : ∀ k, i (ix3 n k 0) = BitVec.ofNat 32 (a k).val) :
    refSum x w i (ix2 n f) = x (ix2 (a 0) f) * w (ix2 n 0) + x (ix2 (a 1) f) * w (ix2 n 1) + x (ix2 (a 2) f) * w (ix2 n 2) := by
  rw [← refGather_at x i n 0 f _ (h 0), ← refGather_at x i n 1 f _ (h 1), ← refGather_at x i n 2 f _ (h 2)]
  unfold refSum
  generalize Host.gather gather_S8192x128_S16384x3x1_S16384x3x128_2_0_n_n_0_2_1128 x i = g
  pointwise [Fin.sum_univ_three]

/-- The reference's result at a point and a column: the three nearest voxels' rows, each by its weight. -/
theorem ref_at (x : FVec Ideal S8192x128 .f32) (v : FVec Ideal S8192x4 .f32) (p : FVec Ideal S16384x4 .f32) (n : Fin 16384) (f : Fin 128) :
    ∃ a b e : Fin 8192, First3 (dist v p n) Fin.val a b e ∧ refOut x v p (ix2 n f) = wsum3 x (dist v p n) a b e f := by
  obtain ⟨a, h, hv, hi⟩ := topThree (refNeg v p) (by decide) sliceFits_S16384x8192_S16384x3 n (dist v p n) fun j => refNeg_at v p n j
  refine ⟨a 0, a 1, a 2, h, ?_⟩
  unfold refOut
  rw [refSum_at x _ _ n f a fun k => refIdx_at _ n k _ (hi k)]
  simp only [refWts_at, refInv_at, hv, neg_neg]
  rfl

end Cert.Proof

end
-- ==== Proof.lean ====
/-
  The claim: both programs run, leave their arguments and semaphores as they were, and end with equal results.
-/
module

public import proofs.«01_k».proof.Defs
public import proofs.«01_k».proof.Proof.Run
public import proofs.«01_k».proof.Proof.RefValue

@[expose] public section

noncomputable section

namespace Cert.Proof

open Idealize.ShloMosaic Idealize.ShloMosaic.Tactic Idealize.SL.Sem

/-- An argument array of the kernel, at the end of a run. -/
theorem arg_end (m : (ℓ : Loc Cert.KernelIdeal.nD Cert.KernelIdeal.τ Cert.KernelIdeal.sig) → Buf (Elt Ideal) ℓ)
    (r : PUnit × MemSt Cert.KernelIdeal.nD Cert.KernelIdeal.τ Cert.KernelIdeal.sig (Elt Ideal)) (h : QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  ⟨(h.1 c _ (mem_unscoped Cert.KernelIdeal.main_arg0 (by decide))).trans (A6_args m c _ (by simp)),
    (h.1 c _ (mem_unscoped Cert.KernelIdeal.main_arg1 (by decide))).trans (A6_args m c _ (by simp)),
    (h.1 c _ (mem_unscoped Cert.KernelIdeal.main_arg2 (by decide))).trans (A6_args m c _ (by simp)),
    (h.1 c _ (mem_unscoped Cert.KernelIdeal.main_arg3 (by decide))).trans (A6_args m c _ (by simp))⟩

/-- The kernel runs, its arguments end unchanged and its semaphores at zero. -/
theorem frame_kernel : Cert.quiescent_KernelIdeal := fun m ρ _ =>
  (θ_run Cert.KernelIdeal.defs _ _).mono (fun r h => ⟨arg_end m r h, h.2⟩) (run_main (F := Ideal) m ρ (inRange m))

/-- The reference has no semaphore, so any two counter assignments agree. -/
theorem sem_ref (f : GSem Cert.ReferenceIdeal.nD Cert.ReferenceIdeal.τ Cert.ReferenceIdeal.sig → ℤ) : f = fun _ => 0 :=
  funext fun g => by rcases g with ⟨_, ⟨s⟩ | ⟨s⟩⟩ <;> exact s.elim0

/-- The reference runs, its arguments end unchanged and its semaphores at zero. -/
theorem frame_ref : Cert.quiescent_ReferenceIdeal := fun m ρ _ =>
  (θ_run Cert.ReferenceIdeal.defs _ _).mono (fun r h => ⟨fun c => (h c).2, sem_ref r.2.sem⟩) (Cert.ReferenceIdeal.Value.run (F := Ideal) m ρ)

/-- The kernel's result is the reference's, at the same arguments. -/
theorem result_eq (m : (ℓ : Loc Cert.KernelIdeal.nD Cert.KernelIdeal.τ Cert.KernelIdeal.sig) → Buf (Elt Ideal) ℓ) (c : Dev Cert.KernelIdeal.nD) :
    refOut (m ((c.tc : Thread Cert.KernelIdeal.nD Cert.KernelIdeal.τ).loc Cert.KernelIdeal.main_arg0)) (voxOf m c) (ptsOf m c)
      = (A6 m c (Proc.devRef .tc Cert.KernelIdeal.main_v35) : Vec Ideal Cert.KernelIdeal.S16384x128 .f32) := by
  funext i
  obtain ⟨n, f, rfl⟩ : ∃ (n : Fin 16384) (f : Fin 128), i = ix2 n f := ⟨i 0, i 1, funext fun b => by match b with | ⟨0, _⟩ => rfl | ⟨1, _⟩ => rfl⟩
  obtain ⟨a, b, e, h, hk⟩ := out_at m c n f
  obtain ⟨a', b', e', h', hr⟩ := ref_at (m ((c.tc : Thread Cert.KernelIdeal.nD Cert.KernelIdeal.τ).loc Cert.KernelIdeal.main_arg0)) (voxOf m c) (ptsOf m c) n f
  obtain ⟨ha, hb, he⟩ := First3.unique h h'
  obtain rfl : a = a' := Fin.ext ha
  obtain rfl : b = b' := Fin.ext hb
  obtain rfl : e = e' := Fin.ext he
  exact hr.trans hk.symm

/-- From arguments that agree, both programs run and end with equal results. -/
theorem equal_results : Cert.algebraic_KernelIdeal_ReferenceIdeal := fun m g m' g' _ hm =>
  ⟨fun c => A6 m c (Proc.devRef .tc Cert.KernelIdeal.main_v35),
    (θ_run Cert.KernelIdeal.defs _ _).mono
      (fun r h c => ⟨h.1 c _ (mem_unscoped Cert.KernelIdeal.main_v35 (by decide)), arg_end m r h c⟩) (run_main (F := Ideal) m g (inRange m)),
    (θ_run Cert.ReferenceIdeal.defs _ _).mono
      (fun r h c => ⟨by
        obtain ⟨h0, h1, h2, h3⟩ := hm c
        refine (h c).1.trans ((res_eq m' c).trans ?_)
        rw [h0, h1, h2, h3]
        exact result_eq m c, (h c).2⟩) (Cert.ReferenceIdeal.Value.run (F := Ideal) m' g')⟩

/-- Both frames and the equality of the results. -/
theorem claim : Cert.Claim := ⟨Cert.KernelIdeal.Gen.facts, Cert.ReferenceIdeal.Gen.facts, frame_kernel, frame_ref, equal_results⟩

end Cert.Proof

end
